-- ==== Defs.lean ====
def Pre_Kernel (m : (ℓ : Loc Cert.Kernel.nD Cert.Kernel.τ Cert.Kernel.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v22) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v18) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v13_0)) (v1 : (c : Dev Cert.InProjIdeal.nD) → Buf (Elt Ideal) ((c.tc : Thread Cert.InProjIdeal.nD Cert.InProjIdeal.τ).loc Cert.InProjIdeal.main_v13_1)) (v2 : (c : Dev Cert.InProjIdeal.nD) → Buf (Elt Ideal) ((c.tc : Thread Cert.InProjIdeal.nD Cert.InProjIdeal.τ).loc Cert.InProjIdeal.main_v13_2)) (v3 : (c : Dev Cert.InProjIdeal.nD) → Buf (Elt Ideal) ((c.tc : Thread Cert.InProjIdeal.nD Cert.InProjIdeal.τ).loc Cert.InProjIdeal.main_v13_3)) (v4 : (c : Dev Cert.InProjIdeal.nD) → Buf (Elt Ideal) ((c.tc : Thread Cert.InProjIdeal.nD Cert.InProjIdeal.τ).loc Cert.InProjIdeal.main_v13_4)) (v5 : (c : Dev Cert.InProjIdeal.nD) → Buf (Elt Ideal) ((c.tc : Thread Cert.InProjIdeal.nD Cert.InProjIdeal.τ).loc Cert.InProjIdeal.main_v13_5)) (v6 : (c : Dev Cert.InProjIdeal.nD) → Buf (Elt Ideal) ((c.tc : Thread Cert.InProjIdeal.nD Cert.InProjIdeal.τ).loc Cert.InProjIdeal.main_v13_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13_0) = v0 c
          ∧ r.2.mem ((c.tc : Thread Cert.InProjIdeal.nD Cert.InProjIdeal.τ).loc Cert.InProjIdeal.main_v13_1) = v1 c
          ∧ r.2.mem ((c.tc : Thread Cert.InProjIdeal.nD Cert.InProjIdeal.τ).loc Cert.InProjIdeal.main_v13_2) = v2 c
          ∧ r.2.mem ((c.tc : Thread Cert.InProjIdeal.nD Cert.InProjIdeal.τ).loc Cert.InProjIdeal.main_v13_3) = v3 c
          ∧ r.2.mem ((c.tc : Thread Cert.InProjIdeal.nD Cert.InProjIdeal.τ).loc Cert.InProjIdeal.main_v13_4) = v4 c
          ∧ r.2.mem ((c.tc : Thread Cert.InProjIdeal.nD Cert.InProjIdeal.τ).loc Cert.InProjIdeal.main_v13_5) = v5 c
          ∧ r.2.mem ((c.tc : Thread Cert.InProjIdeal.nD Cert.InProjIdeal.τ).loc Cert.InProjIdeal.main_v13_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_v93) = v2 c
          ∧ r.2.mem ((c.tc : Thread Cert.InProjRefIdeal.nD Cert.InProjRefIdeal.τ).loc Cert.InProjRefIdeal.main_v94) = v3 c
          ∧ r.2.mem ((c.tc : Thread Cert.InProjRefIdeal.nD Cert.InProjRefIdeal.τ).loc Cert.InProjRefIdeal.main_v95) = v4 c
          ∧ r.2.mem ((c.tc : Thread Cert.InProjRefIdeal.nD Cert.InProjRefIdeal.τ).loc Cert.InProjRefIdeal.main_v21) = v5 c
          ∧ r.2.mem ((c.tc : Thread Cert.InProjRefIdeal.nD Cert.InProjRefIdeal.τ).loc Cert.InProjRefIdeal.main_v92) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def Claim : Prop :=
  ∃ (hKernel : Cert.Kernel.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts),
    quiescent_Kernel (hKernel := hKernel)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
-- ==== Kernel.lean ====
abbrev S16x2048x1024 : Shape := ⟨3, ![16, 2048, 1024]⟩
abbrev S16x2048x512 : Shape := ⟨3, ![16, 2048, 512]⟩
abbrev S16x64x256 : Shape := ⟨3, ![16, 64, 256]⟩
abbrev S16x2048x128 : Shape := ⟨3, ![16, 2048, 128]⟩
abbrev S4x4x17x128x128 : Shape := ⟨5, ![4, 4, 17, 128, 128]⟩
abbrev S4x4x7x128x128 : Shape := ⟨5, ![4, 4, 7, 128, 128]⟩
abbrev S4x4x64x2048 : Shape := ⟨4, ![4, 4, 64, 2048]⟩
abbrev S1x128x256 : Shape := ⟨3, ![1, 128, 256]⟩
abbrev S1x2048x128 : Shape := ⟨3, ![1, 2048, 128]⟩
abbrev S1x64x128 : Shape := ⟨3, ![1, 64, 128]⟩
abbrev S1x128x128 : Shape := ⟨3, ![1, 128, 128]⟩
abbrev S1x4x17x128x128 : Shape := ⟨5, ![1, 4, 17, 128, 128]⟩
abbrev S1x4x7x128x128 : Shape := ⟨5, ![1, 4, 7, 128, 128]⟩
abbrev S1x4x64x128 : Shape := ⟨4, ![1, 4, 64, 128]⟩
abbrev S2048x256 : Shape := ⟨2, ![2048, 256]⟩
abbrev S2048x128 : Shape := ⟨2, ![2048, 128]⟩
abbrev S512x2048 : Shape := ⟨2, ![512, 2048]⟩
abbrev S1x128 : Shape := ⟨2, ![1, 128]⟩
abbrev S128x256 : Shape := ⟨2, ![128, 256]⟩
abbrev S128x64 : Shape := ⟨2, ![128, 64]⟩
abbrev S512x64 : Shape := ⟨2, ![512, 64]⟩
abbrev S512x128 : Shape := ⟨2, ![512, 128]⟩
abbrev S640x128 : Shape := ⟨2, ![640, 128]⟩
abbrev S256x128 : Shape := ⟨2, ![256, 128]⟩
abbrev S256x640 : Shape := ⟨2, ![256, 640]⟩
abbrev S64x128 : Shape := ⟨2, ![64, 128]⟩
abbrev S1x1x1x64x128 : Shape := ⟨5, ![1, 1, 1, 64, 128]⟩
abbrev S64 : Shape := ⟨1, ![64]⟩
abbrev S64x1 : Shape := ⟨2, ![64, 1]⟩
abbrev S1x1x64x128 : Shape := ⟨4, ![1, 1, 64, 128]⟩
abbrev S64x512 : Shape := ⟨2, ![64, 512]⟩
abbrev S512 : Shape := ⟨1, ![512]⟩
abbrev S1x512 : Shape := ⟨2, ![1, 512]⟩
abbrev S32x64 : Shape := ⟨2, ![32, 64]⟩
abbrev S32x128 : Shape := ⟨2, ![32, 128]⟩
abbrev S32x1 : Shape := ⟨2, ![32, 1]⟩
abbrev S96x128 : Shape := ⟨2, ![96, 128]⟩
abbrev S128x128 : Shape := ⟨2, ![128, 128]⟩
abbrev S512x256 : Shape := ⟨2, ![512, 256]⟩
abbrev S256x256 : Shape := ⟨2, ![256, 256]⟩
abbrev S256x2048 : Shape := ⟨2, ![256, 2048]⟩
abbrev S1792x256 : Shape := ⟨2, ![1792, 256]⟩
abbrev S1792x128 : Shape := ⟨2, ![1792, 128]⟩
abbrev S256x1792 : Shape := ⟨2, ![256, 1792]⟩
abbrev S1536x256 : Shape := ⟨2, ![1536, 256]⟩
abbrev S1536x128 : Shape := ⟨2, ![1536, 128]⟩
abbrev S256x1536 : Shape := ⟨2, ![256, 1536]⟩
abbrev S1280x256 : Shape := ⟨2, ![1280, 256]⟩
abbrev S1280x128 : Shape := ⟨2, ![1280, 128]⟩
abbrev S256x1280 : Shape := ⟨2, ![256, 1280]⟩
abbrev S1024x256 : Shape := ⟨2, ![1024, 256]⟩
abbrev S1024x128 : Shape := ⟨2, ![1024, 128]⟩
abbrev S256x1024 : Shape := ⟨2, ![256, 1024]⟩
abbrev S768x256 : Shape := ⟨2, ![768, 256]⟩
abbrev S768x128 : Shape := ⟨2, ![768, 128]⟩
abbrev S256x768 : Shape := ⟨2, ![256, 768]⟩
abbrev S256x512 : Shape := ⟨2, ![256, 512]⟩
abbrev S128x1 : Shape := ⟨2, ![128, 1]⟩

abbrev nBuf : Space → Nat
  | .hbm => 10
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x512, .f32⟩
  | .hbm, ⟨3, _⟩ => ⟨S16x64x256, .f32⟩
  | .hbm, ⟨4, _⟩ => ⟨S16x64x256, .f32⟩
  | .hbm, ⟨5, _⟩ => ⟨S16x2048x128, .f32⟩
  | .hbm, ⟨6, _⟩ => ⟨S4x4x17x128x128, .f32⟩
  | .hbm, ⟨7, _⟩ => ⟨S4x4x7x128x128, .f32⟩
  | .hbm, ⟨8, _⟩ => ⟨S4x4x64x2048, .f32⟩
  | .hbm, ⟨9, _⟩ => ⟨S16x2048x1024, .bf16⟩
  | .local _ .vmem, ⟨0, _⟩ => ⟨S1x128x256, .f32⟩
  | .local _ .vmem, ⟨1, _⟩ => ⟨S1x128x256, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S1x128x128, .f32⟩
  | .local _ .vmem, ⟨15, _⟩ => ⟨S1x128x128, .f32⟩
  | .local _ .vmem, ⟨16, _⟩ => ⟨S1x4x17x128x128, .f32⟩
  | .local _ .vmem, ⟨17, _⟩ => ⟨S1x4x17x128x128, .f32⟩
  | .local _ .vmem, ⟨18, _⟩ => ⟨S1x4x7x128x128, .f32⟩
  | .local _ .vmem, ⟨19, _⟩ => ⟨S1x4x7x128x128, .f32⟩
  | .local _ .vmem, ⟨20, _⟩ => ⟨S1x4x64x128, .f32⟩
  | .local _ .vmem, ⟨21, _⟩ => ⟨S1x4x64x128, .f32⟩
  | .local _ .vmem, ⟨22, _⟩ => ⟨S1x128x256, .bf16⟩
  | .local _ .vmem, ⟨23, _⟩ => ⟨S1x128x256, .bf16⟩
  | .local _ .vmem, ⟨24, _⟩ => ⟨S2048x256, .bf16⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S512x2048, .f32⟩
  | .local _ .vmem, ⟨29, _⟩ => ⟨S512x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 16, 16], ![false, false, false]⟩

def k0_mult1 (i : grid0.Coords) : BitVec 32 :=
  let arg2 : BitVec 32 := BitVec.ofNat 32 (i 2).val
  let c4_i32 : BitVec 32 := 4#32
  let v64 : BitVec 32 := Scalar.subi arg2 c4_i32
  let c0_i32_20 : BitVec 32 := 0#32
  let v65 : BitVec 32 := Scalar.maxsi v64 c0_i32_20
  let c128_i32 : BitVec 32 := 128#32
  let v66 : BitVec 32 := Scalar.muli v65 c128_i32
  v66
def k0_off1 (i : grid0.Coords) : Fin 2 → Nat :=
  let arg2 : BitVec 32 := BitVec.ofNat 32 (i 2).val
  let c4_i32 : BitVec 32 := 4#32
  let v64 : BitVec 32 := Scalar.subi arg2 c4_i32
  let c0_i32_20 : BitVec 32 := 0#32
  let v65 : BitVec 32 := Scalar.maxsi v64 c0_i32_20
  let c128_i32 : BitVec 32 := 128#32
  let v66 : BitVec 32 := Scalar.muli v65 c128_i32
  let v67 : BitVec 32 := v66
  let v68 : Index := Scalar.indexCast v67
  let c0_21 : Index := 0#32
  ![v68.toNat, 0]
def k0_off2 (i : grid0.Coords) (c0_i32_30 : BitVec 32) : Fin 5 → Nat :=
  let c0_33 : Index := 0#32
  let c0_34 : Index := 0#32
  let arg2 : BitVec 32 := BitVec.ofNat 32 (i 2).val
  let c4_i32 : BitVec 32 := 4#32
  let v64 : BitVec 32 := Scalar.subi arg2 c4_i32
  let c0_i32_20 : BitVec 32 := 0#32
  let v65 : BitVec 32 := Scalar.maxsi v64 c0_i32_20
  let v83 : BitVec 32 := Scalar.addi v65 c0_i32_30
  let v84 : BitVec 32 := Scalar.subi arg2 v83
  let c1_i32_31 : BitVec 32 := 1#32
  let v85 : BitVec 32 := Scalar.addi v84 c1_i32_31
  let c0_i32_32 : BitVec 32 := 0#32
  let v86 : BitVec 32 := Scalar.maxsi v85 c0_i32_32
  let v87 : Index := Scalar.indexCast v86
  let c0_35 : Index := 0#32
  let c0_36 : Index := 0#32
  ![0, 0, v87.toNat, 0, 0]
def k0_off3 (i : grid0.Coords) (c0_i32_101 : BitVec 32) : Fin 5 → Nat :=
  let c0_104 : Index := 0#32
  let c0_105 : Index := 0#32
  let arg2 : BitVec 32 := BitVec.ofNat 32 (i 2).val
  let c4_i32 : BitVec 32 := 4#32
  let v64 : BitVec 32 := Scalar.subi arg2 c4_i32
  let c0_i32_20 : BitVec 32 := 0#32
  let v65 : BitVec 32 := Scalar.maxsi v64 c0_i32_20
  let v186 : BitVec 32 := Scalar.addi v65 c0_i32_101
  let v187 : BitVec 32 := Scalar.subi arg2 v186
  let c1_i32_102 : BitVec 32 := 1#32
  let v188 : BitVec 32 := Scalar.addi v187 c1_i32_102
  let c0_i32_103 : BitVec 32 := 0#32
  let v189 : BitVec 32 := Scalar.maxsi v188 c0_i32_103
  let v190 : Index := Scalar.indexCast v189
  let c64_106 : Index := 64#32
  let c0_107 : Index := 0#32
  ![0, 0, v190.toNat, 64, 0]
def k0_off4 (i : grid0.Coords) (c0_i32_177 : BitVec 32) : Fin 5 → Nat :=
  let c0_180 : Index := 0#32
  let c1 : Index := 1#32
  let arg2 : BitVec 32 := BitVec.ofNat 32 (i 2).val
  let c4_i32 : BitVec 32 := 4#32
  let v64 : BitVec 32 := Scalar.subi arg2 c4_i32
  let c0_i32_20 : BitVec 32 := 0#32
  let v65 : BitVec 32 := Scalar.maxsi v64 c0_i32_20
  let v289 : BitVec 32 := Scalar.addi v65 c0_i32_177
  let v290 : BitVec 32 := Scalar.subi arg2 v289
  let c1_i32_178 : BitVec 32 := 1#32
  let v291 : BitVec 32 := Scalar.addi v290 c1_i32_178
  let c0_i32_179 : BitVec 32 := 0#32
  let v292 : BitVec 32 := Scalar.maxsi v291 c0_i32_179
  let v293 : Index := Scalar.indexCast v292
  let c0_181 : Index := 0#32
  let c0_182 : Index := 0#32
  ![0, 1, v293.toNat, 0, 0]
def k0_off5 (i : grid0.Coords) (c0_i32_251 : BitVec 32) : Fin 5 → Nat :=
  let c0_254 : Index := 0#32
  let c1_255 : Index := 1#32
  let arg2 : BitVec 32 := BitVec.ofNat 32 (i 2).val
  let c4_i32 : BitVec 32 := 4#32
  let v64 : BitVec 32 := Scalar.subi arg2 c4_i32
  let c0_i32_20 : BitVec 32 := 0#32
  let v65 : BitVec 32 := Scalar.maxsi v64 c0_i32_20
  let v392 : BitVec 32 := Scalar.addi v65 c0_i32_251
  let v393 : BitVec 32 := Scalar.subi arg2 v392
  let c1_i32_252 : BitVec 32 := 1#32
  let v394 : BitVec 32 := Scalar.addi v393 c1_i32_252
  let c0_i32_253 : BitVec 32 := 0#32
  let v395 : BitVec 32 := Scalar.maxsi v394 c0_i32_253
  let v396 : Index := Scalar.indexCast v395
  let c64_256 : Index := 64#32
  let c0_257 : Index := 0#32
  ![0, 1, v396.toNat, 64, 0]
def k0_off6 (i : grid0.Coords) (c0_i32_330 : BitVec 32) : Fin 5 → Nat :=
  let c0_333 : Index := 0#32
  let c2 : Index := 2#32
  let arg2 : BitVec 32 := BitVec.ofNat 32 (i 2).val
  let c4_i32 : BitVec 32 := 4#32
  let v64 : BitVec 32 := Scalar.subi arg2 c4_i32
  let c0_i32_20 : BitVec 32 := 0#32
  let v65 : BitVec 32 := Scalar.maxsi v64 c0_i32_20
  let v497 : BitVec 32 := Scalar.addi v65 c0_i32_330
  let v498 : BitVec 32 := Scalar.subi arg2 v497
  let c1_i32_331 : BitVec 32 := 1#32
  let v499 : BitVec 32 := Scalar.addi v498 c1_i32_331
  let c0_i32_332 : BitVec 32 := 0#32
  let v500 : BitVec 32 := Scalar.maxsi v499 c0_i32_332
  let v501 : Index := Scalar.indexCast v500
  let c0_334 : Index := 0#32
  let c0_335 : Index := 0#32
  ![0, 2, v501.toNat, 0, 0]
def k0_off7 (i : grid0.Coords) (c0_i32_404 : BitVec 32) : Fin 5 → Nat :=
  let c0_407 : Index := 0#32
  let c2_408 : Index := 2#32
  let arg2 : BitVec 32 := BitVec.ofNat 32 (i 2).val
  let c4_i32 : BitVec 32 := 4#32
  let v64 : BitVec 32 := Scalar.subi arg2 c4_i32
  let c0_i32_20 : BitVec 32 := 0#32
  let v65 : BitVec 32 := Scalar.maxsi v64 c0_i32_20
  let v600 : BitVec 32 := Scalar.addi v65 c0_i32_404
  let v601 : BitVec 32 := Scalar.subi arg2 v600
  let c1_i32_405 : BitVec 32 := 1#32
  let v602 : BitVec 32 := Scalar.addi v601 c1_i32_405
  let c0_i32_406 : BitVec 32 := 0#32
  let v603 : BitVec 32 := Scalar.maxsi v602 c0_i32_406
  let v604 : Index := Scalar.indexCast v603
  let c64_409 : Index := 64#32
  let c0_410 : Index := 0#32
  ![0, 2, v604.toNat, 64, 0]
def k0_off8 (i : grid0.Coords) (c0_i32_480 : BitVec 32) : Fin 5 → Nat :=
  let c0_483 : Index := 0#32
  let c3 : Index := 3#32
  let arg2 : BitVec 32 := BitVec.ofNat 32 (i 2).val
  let c4_i32 : BitVec 32 := 4#32
  let v64 : BitVec 32 := Scalar.subi arg2 c4_i32
  let c0_i32_20 : BitVec 32 := 0#32
  let v65 : BitVec 32 := Scalar.maxsi v64 c0_i32_20
  let v703 : BitVec 32 := Scalar.addi v65 c0_i32_480
  let v704 : BitVec 32 := Scalar.subi arg2 v703
  let c1_i32_481 : BitVec 32 := 1#32
  let v705 : BitVec 32 := Scalar.addi v704 c1_i32_481
  let c0_i32_482 : BitVec 32 := 0#32
  let v706 : BitVec 32 := Scalar.maxsi v705 c0_i32_482
  let v707 : Index := Scalar.indexCast v706
  let c0_484 : Index := 0#32
  let c0_485 : Index := 0#32
  ![0, 3, v707.toNat, 0, 0]
def k0_off9 (i : grid0.Coords) (c0_i32_554 : BitVec 32) : Fin 5 → Nat :=
  let c0_557 : Index := 0#32
  let c3_558 : Index := 3#32
  let arg2 : BitVec 32 := BitVec.ofNat 32 (i 2).val
  let c4_i32 : BitVec 32 := 4#32
  let v64 : BitVec 32 := Scalar.subi arg2 c4_i32
  let c0_i32_20 : BitVec 32 := 0#32
  let v65 : BitVec 32 := Scalar.maxsi v64 c0_i32_20
  let v806 : BitVec 32 := Scalar.addi v65 c0_i32_554
  let v807 : BitVec 32 := Scalar.subi arg2 v806
  let c1_i32_555 : BitVec 32 := 1#32
  let v808 : BitVec 32 := Scalar.addi v807 c1_i32_555
  let c0_i32_556 : BitVec 32 := 0#32
  let v809 : BitVec 32 := Scalar.maxsi v808 c0_i32_556
  let v810 : Index := Scalar.indexCast v809
  let c64_559 : Index := 64#32
  let c0_560 : Index := 0#32
  ![0, 3, v810.toNat, 64, 0]
def k0_cond2 (i : grid0.Coords) : BitVec 1 :=
  let arg2 : BitVec 32 := BitVec.ofNat 32 (i 2).val
  let c0_i32_760 : BitVec 32 := 0#32
  let v1519 : BitVec 1 := Scalar.cmpi .sgt arg2 c0_i32_760
  let v1520 : BitVec 32 := Scalar.extui v1519
  let c0_i32_761 : BitVec 32 := 0#32
  let v1521 : BitVec 1 := Scalar.cmpi .slt arg2 c0_i32_761
  let v1522 : BitVec 32 := Scalar.extui v1521
  let v1523 : BitVec 32 := Scalar.subi v1520 v1522
  let c2_i32_759 : BitVec 32 := 2#32
  let c0_i32_762 : BitVec 32 := 0#32
  let v1524 : BitVec 1 := Scalar.cmpi .sgt c2_i32_759 c0_i32_762
  let v1525 : BitVec 32 := Scalar.extui v1524
  let c0_i32_763 : BitVec 32 := 0#32
  let v1526 : BitVec 1 := Scalar.cmpi .slt c2_i32_759 c0_i32_763
  let v1527 : BitVec 32 := Scalar.extui v1526
  let v1528 : BitVec 32 := Scalar.subi v1525 v1527
  let v1529 : BitVec 1 := Scalar.cmpi .ne v1523 v1528
  let v1530 : BitVec 32 := Scalar.remsi arg2 c2_i32_759
  let c0_i32_764 : BitVec 32 := 0#32
  let v1531 : BitVec 1 := Scalar.cmpi .ne v1530 c0_i32_764
  let v1532 : BitVec 1 := Scalar.andi v1529 v1531
  let v1518 : BitVec 32 := Scalar.divsi arg2 c2_i32_759
  let c1_i32_765 : BitVec 32 := 1#32
  let v1533 : BitVec 32 := Scalar.subi v1518 c1_i32_765
  let v1534 : BitVec 32 := Scalar.select v1532 v1533 v1518
  let c0_i32_766 : BitVec 32 := 0#32
  let v1535 : BitVec 32 := Scalar.maxsi v1534 c0_i32_766
  let c7_i32_767 : BitVec 32 := 7#32
  let v1536 : BitVec 32 := Scalar.minsi v1535 c7_i32_767
  let c0_i32_768 : BitVec 32 := 0#32
  let v1537 : BitVec 1 := Scalar.cmpi .ne v1536 c0_i32_768
  v1537

def k0_cond3 (i : grid0.Coords) : BitVec 1 :=
  let arg2 : BitVec 32 := BitVec.ofNat 32 (i 2).val
  let c0_i32_760 : BitVec 32 := 0#32
  let v1519 : BitVec 1 := Scalar.cmpi .sgt arg2 c0_i32_760
  let v1520 : BitVec 32 := Scalar.extui v1519
  let c0_i32_761 : BitVec 32 := 0#32
  let v1521 : BitVec 1 := Scalar.cmpi .slt arg2 c0_i32_761
  let v1522 : BitVec 32 := Scalar.extui v1521
  let v1523 : BitVec 32 := Scalar.subi v1520 v1522
  let c2_i32_759 : BitVec 32 := 2#32
  let c0_i32_762 : BitVec 32 := 0#32
  let v1524 : BitVec 1 := Scalar.cmpi .sgt c2_i32_759 c0_i32_762
  let v1525 : BitVec 32 := Scalar.extui v1524
  let c0_i32_763 : BitVec 32 := 0#32
  let v1526 : BitVec 1 := Scalar.cmpi .slt c2_i32_759 c0_i32_763
  let v1527 : BitVec 32 := Scalar.extui v1526
  let v1528 : BitVec 32 := Scalar.subi v1525 v1527
  let v1529 : BitVec 1 := Scalar.cmpi .ne v1523 v1528
  let v1530 : BitVec 32 := Scalar.remsi arg2 c2_i32_759
  let c0_i32_764 : BitVec 32 := 0#32
  let v1531 : BitVec 1 := Scalar.cmpi .ne v1530 c0_i32_764
  let v1532 : BitVec 1 := Scalar.andi v1529 v1531
  let v1518 : BitVec 32 := Scalar.divsi arg2 c2_i32_759
  let c1_i32_765 : BitVec 32 := 1#32
  let v1533 : BitVec 32 := Scalar.subi v1518 c1_i32_765
  let v1534 : BitVec 32 := Scalar.select v1532 v1533 v1518
  let c0_i32_766 : BitVec 32 := 0#32
  let v1535 : BitVec 32 := Scalar.maxsi v1534 c0_i32_766
  let c7_i32_767 : BitVec 32 := 7#32
  let v1536 : BitVec 32 := Scalar.minsi v1535 c7_i32_767
  let c1_i32_776 : BitVec 32 := 1#32
  let v1609 : BitVec 32 := Scalar.subi v1536 c1_i32_776
  let c0_i32_777 : BitVec 32 := 0#32
  let v1610 : BitVec 1 := Scalar.cmpi .ne v1609 c0_i32_777
  v1610

def k0_cond4 (i : grid0.Coords) : BitVec 1 :=
  let arg2 : BitVec 32 := BitVec.ofNat 32 (i 2).val
  let c0_i32_760 : BitVec 32 := 0#32
  let v1519 : BitVec 1 := Scalar.cmpi .sgt arg2 c0_i32_760
  let v1520 : BitVec 32 := Scalar.extui v1519
  let c0_i32_761 : BitVec 32 := 0#32
  let v1521 : BitVec 1 := Scalar.cmpi .slt arg2 c0_i32_761
  let v1522 : BitVec 32 := Scalar.extui v1521
  let v1523 : BitVec 32 := Scalar.subi v1520 v1522
  let c2_i32_759 : BitVec 32 := 2#32
  let c0_i32_762 : BitVec 32 := 0#32
  let v1524 : BitVec 1 := Scalar.cmpi .sgt c2_i32_759 c0_i32_762
  let v1525 : BitVec 32 := Scalar.extui v1524
  let c0_i32_763 : BitVec 32 := 0#32
  let v1526 : BitVec 1 := Scalar.cmpi .slt c2_i32_759 c0_i32_763
  let v1527 : BitVec 32 := Scalar.extui v1526
  let v1528 : BitVec 32 := Scalar.subi v1525 v1527
  let v1529 : BitVec 1 := Scalar.cmpi .ne v1523 v1528
  let v1530 : BitVec 32 := Scalar.remsi arg2 c2_i32_759
  let c0_i32_764 : BitVec 32 := 0#32
  let v1531 : BitVec 1 := Scalar.cmpi .ne v1530 c0_i32_764
  let v1532 : BitVec 1 := Scalar.andi v1529 v1531
  let v1518 : BitVec 32 := Scalar.divsi arg2 c2_i32_759
  let c1_i32_765 : BitVec 32 := 1#32
  let v1533 : BitVec 32 := Scalar.subi v1518 c1_i32_765
  let v1534 : BitVec 32 := Scalar.select v1532 v1533 v1518
  let c0_i32_766 : BitVec 32 := 0#32
  let v1535 : BitVec 32 := Scalar.maxsi v1534 c0_i32_766
  let c7_i32_767 : BitVec 32 := 7#32
  let v1536 : BitVec 32 := Scalar.minsi v1535 c7_i32_767
  let c1_i32_776 : BitVec 32 := 1#32
  let v1609 : BitVec 32 := Scalar.subi v1536 c1_i32_776
  let c1_i32_778 : BitVec 32 := 1#32
  let v1612 : BitVec 32 := Scalar.subi v1609 c1_i32_778
  let c0_i32_779 : BitVec 32 := 0#32
  let v1613 : BitVec 1 := Scalar.cmpi .ne v1612 c0_i32_779
  v1613

def k0_cond5 (i : grid0.Coords) : BitVec 1 :=
  let arg2 : BitVec 32 := BitVec.ofNat 32 (i 2).val
  let c0_i32_760 : BitVec 32 := 0#32
  let v1519 : BitVec 1 := Scalar.cmpi .sgt arg2 c0_i32_760
  let v1520 : BitVec 32 := Scalar.extui v1519
  let c0_i32_761 : BitVec 32 := 0#32
  let v1521 : BitVec 1 := Scalar.cmpi .slt arg2 c0_i32_761
  let v1522 : BitVec 32 := Scalar.extui v1521
  let v1523 : BitVec 32 := Scalar.subi v1520 v1522
  let c2_i32_759 : BitVec 32 := 2#32
  let c0_i32_762 : BitVec 32 := 0#32
  let v1524 : BitVec 1 := Scalar.cmpi .sgt c2_i32_759 c0_i32_762
  let v1525 : BitVec 32 := Scalar.extui v1524
  let c0_i32_763 : BitVec 32 := 0#32
  let v1526 : BitVec 1 := Scalar.cmpi .slt c2_i32_759 c0_i32_763
  let v1527 : BitVec 32 := Scalar.extui v1526
  let v1528 : BitVec 32 := Scalar.subi v1525 v1527
  let v1529 : BitVec 1 := Scalar.cmpi .ne v1523 v1528
  let v1530 : BitVec 32 := Scalar.remsi arg2 c2_i32_759
  let c0_i32_764 : BitVec 32 := 0#32
  let v1531 : BitVec 1 := Scalar.cmpi .ne v1530 c0_i32_764
  let v1532 : BitVec 1 := Scalar.andi v1529 v1531
  let v1518 : BitVec 32 := Scalar.divsi arg2 c2_i32_759
  let c1_i32_765 : BitVec 32 := 1#32
  let v1533 : BitVec 32 := Scalar.subi v1518 c1_i32_765
  let v1534 : BitVec 32 := Scalar.select v1532 v1533 v1518
  let c0_i32_766 : BitVec 32 := 0#32
  let v1535 : BitVec 32 := Scalar.maxsi v1534 c0_i32_766
  let c7_i32_767 : BitVec 32 := 7#32
  let v1536 : BitVec 32 := Scalar.minsi v1535 c7_i32_767
  let c1_i32_776 : BitVec 32 := 1#32
  let v1609 : BitVec 32 := Scalar.subi v1536 c1_i32_776
  let c1_i32_778 : BitVec 32 := 1#32
  let v1612 : BitVec 32 := Scalar.subi v1609 c1_i32_778
  let c1_i32_780 : BitVec 32 := 1#32
  let v1615 : BitVec 32 := Scalar.subi v1612 c1_i32_780
  let c0_i32_781 : BitVec 32 := 0#32
  let v1616 : BitVec 1 := Scalar.cmpi .ne v1615 c0_i32_781
  v1616

def k0_cond6 (i : grid0.Coords) : BitVec 1 :=
  let arg2 : BitVec 32 := BitVec.ofNat 32 (i 2).val
  let c0_i32_760 : BitVec 32 := 0#32
  let v1519 : BitVec 1 := Scalar.cmpi .sgt arg2 c0_i32_760
  let v1520 : BitVec 32 := Scalar.extui v1519
  let c0_i32_761 : BitVec 32 := 0#32
  let v1521 : BitVec 1 := Scalar.cmpi .slt arg2 c0_i32_761
  let v1522 : BitVec 32 := Scalar.extui v1521
  let v1523 : BitVec 32 := Scalar.subi v1520 v1522
  let c2_i32_759 : BitVec 32 := 2#32
  let c0_i32_762 : BitVec 32 := 0#32
  let v1524 : BitVec 1 := Scalar.cmpi .sgt c2_i32_759 c0_i32_762
  let v1525 : BitVec 32 := Scalar.extui v1524
  let c0_i32_763 : BitVec 32 := 0#32
  let v1526 : BitVec 1 := Scalar.cmpi .slt c2_i32_759 c0_i32_763
  let v1527 : BitVec 32 := Scalar.extui v1526
  let v1528 : BitVec 32 := Scalar.subi v1525 v1527
  let v1529 : BitVec 1 := Scalar.cmpi .ne v1523 v1528
  let v1530 : BitVec 32 := Scalar.remsi arg2 c2_i32_759
  let c0_i32_764 : BitVec 32 := 0#32
  let v1531 : BitVec 1 := Scalar.cmpi .ne v1530 c0_i32_764
  let v1532 : BitVec 1 := Scalar.andi v1529 v1531
  let v1518 : BitVec 32 := Scalar.divsi arg2 c2_i32_759
  let c1_i32_765 : BitVec 32 := 1#32
  let v1533 : BitVec 32 := Scalar.subi v1518 c1_i32_765
  let v1534 : BitVec 32 := Scalar.select v1532 v1533 v1518
  let c0_i32_766 : BitVec 32 := 0#32
  let v1535 : BitVec 32 := Scalar.maxsi v1534 c0_i32_766
  let c7_i32_767 : BitVec 32 := 7#32
  let v1536 : BitVec 32 := Scalar.minsi v1535 c7_i32_767
  let c1_i32_776 : BitVec 32 := 1#32
  let v1609 : BitVec 32 := Scalar.subi v1536 c1_i32_776
  let c1_i32_778 : BitVec 32 := 1#32
  let v1612 : BitVec 32 := Scalar.subi v1609 c1_i32_778
  let c1_i32_780 : BitVec 32 := 1#32
  let v1615 : BitVec 32 := Scalar.subi v1612 c1_i32_780
  let c1_i32_782 : BitVec 32 := 1#32
  let v1618 : BitVec 32 := Scalar.subi v1615 c1_i32_782
  let c0_i32_783 : BitVec 32 := 0#32
  let v1619 : BitVec 1 := Scalar.cmpi .ne v1618 c0_i32_783
  v1619

def k0_cond7 (i : grid0.Coords) : BitVec 1 :=
  let arg2 : BitVec 32 := BitVec.ofNat 32 (i 2).val
  let c0_i32_760 : BitVec 32 := 0#32
  let v1519 : BitVec 1 := Scalar.cmpi .sgt arg2 c0_i32_760
  let v1520 : BitVec 32 := Scalar.extui v1519
  let c0_i32_761 : BitVec 32 := 0#32
  let v1521 : BitVec 1 := Scalar.cmpi .slt arg2 c0_i32_761
  let v1522 : BitVec 32 := Scalar.extui v1521
  let v1523 : BitVec 32 := Scalar.subi v1520 v1522
  let c2_i32_759 : BitVec 32 := 2#32
  let c0_i32_762 : BitVec 32 := 0#32
  let v1524 : BitVec 1 := Scalar.cmpi .sgt c2_i32_759 c0_i32_762
  let v1525 : BitVec 32 := Scalar.extui v1524
  let c0_i32_763 : BitVec 32 := 0#32
  let v1526 : BitVec 1 := Scalar.cmpi .slt c2_i32_759 c0_i32_763
  let v1527 : BitVec 32 := Scalar.extui v1526
  let v1528 : BitVec 32 := Scalar.subi v1525 v1527
  let v1529 : BitVec 1 := Scalar.cmpi .ne v1523 v1528
  let v1530 : BitVec 32 := Scalar.remsi arg2 c2_i32_759
  let c0_i32_764 : BitVec 32 := 0#32
  let v1531 : BitVec 1 := Scalar.cmpi .ne v1530 c0_i32_764
  let v1532 : BitVec 1 := Scalar.andi v1529 v1531
  let v1518 : BitVec 32 := Scalar.divsi arg2 c2_i32_759
  let c1_i32_765 : BitVec 32 := 1#32
  let v1533 : BitVec 32 := Scalar.subi v1518 c1_i32_765
  let v1534 : BitVec 32 := Scalar.select v1532 v1533 v1518
  let c0_i32_766 : BitVec 32 := 0#32
  let v1535 : BitVec 32 := Scalar.maxsi v1534 c0_i32_766
  let c7_i32_767 : BitVec 32 := 7#32
  let v1536 : BitVec 32 := Scalar.minsi v1535 c7_i32_767
  let c1_i32_776 : BitVec 32 := 1#32
  let v1609 : BitVec 32 := Scalar.subi v1536 c1_i32_776
  let c1_i32_778 : BitVec 32 := 1#32
  let v1612 : BitVec 32 := Scalar.subi v1609 c1_i32_778
  let c1_i32_780 : BitVec 32 := 1#32
  let v1615 : BitVec 32 := Scalar.subi v1612 c1_i32_780
  let c1_i32_782 : BitVec 32 := 1#32
  let v1618 : BitVec 32 := Scalar.subi v1615 c1_i32_782
  let c1_i32_784 : BitVec 32 := 1#32
  let v1621 : BitVec 32 := Scalar.subi v1618 c1_i32_784
  let c0_i32_785 : BitVec 32 := 0#32
  let v1622 : BitVec 1 := Scalar.cmpi .ne v1621 c0_i32_785
  v1622

def k0_cond8 (i : grid0.Coords) : BitVec 1 :=
  let arg2 : BitVec 32 := BitVec.ofNat 32 (i 2).val
  let c0_i32_760 : BitVec 32 := 0#32
  let v1519 : BitVec 1 := Scalar.cmpi .sgt arg2 c0_i32_760
  let v1520 : BitVec 32 := Scalar.extui v1519
  let c0_i32_761 : BitVec 32 := 0#32
  let v1521 : BitVec 1 := Scalar.cmpi .slt arg2 c0_i32_761
  let v1522 : BitVec 32 := Scalar.extui v1521
  let v1523 : BitVec 32 := Scalar.subi v1520 v1522
  let c2_i32_759 : BitVec 32 := 2#32
  let c0_i32_762 : BitVec 32 := 0#32
  let v1524 : BitVec 1 := Scalar.cmpi .sgt c2_i32_759 c0_i32_762
  let v1525 : BitVec 32 := Scalar.extui v1524
  let c0_i32_763 : BitVec 32 := 0#32
  let v1526 : BitVec 1 := Scalar.cmpi .slt c2_i32_759 c0_i32_763
  let v1527 : BitVec 32 := Scalar.extui v1526
  let v1528 : BitVec 32 := Scalar.subi v1525 v1527
  let v1529 : BitVec 1 := Scalar.cmpi .ne v1523 v1528
  let v1530 : BitVec 32 := Scalar.remsi arg2 c2_i32_759
  let c0_i32_764 : BitVec 32 := 0#32
  let v1531 : BitVec 1 := Scalar.cmpi .ne v1530 c0_i32_764
  let v1532 : BitVec 1 := Scalar.andi v1529 v1531
  let v1518 : BitVec 32 := Scalar.divsi arg2 c2_i32_759
  let c1_i32_765 : BitVec 32 := 1#32
  let v1533 : BitVec 32 := Scalar.subi v1518 c1_i32_765
  let v1534 : BitVec 32 := Scalar.select v1532 v1533 v1518
  let c0_i32_766 : BitVec 32 := 0#32
  let v1535 : BitVec 32 := Scalar.maxsi v1534 c0_i32_766
  let c7_i32_767 : BitVec 32 := 7#32
  let v1536 : BitVec 32 := Scalar.minsi v1535 c7_i32_767
  let c1_i32_776 : BitVec 32 := 1#32
  let v1609 : BitVec 32 := Scalar.subi v1536 c1_i32_776
  let c1_i32_778 : BitVec 32 := 1#32
  let v1612 : BitVec 32 := Scalar.subi v1609 c1_i32_778
  let c1_i32_780 : BitVec 32 := 1#32
  let v1615 : BitVec 32 := Scalar.subi v1612 c1_i32_780
  let c1_i32_782 : BitVec 32 := 1#32
  let v1618 : BitVec 32 := Scalar.subi v1615 c1_i32_782
  let c1_i32_784 : BitVec 32 := 1#32
  let v1621 : BitVec 32 := Scalar.subi v1618 c1_i32_784
  let c1_i32_786 : BitVec 32 := 1#32
  let v1624 : BitVec 32 := Scalar.subi v1621 c1_i32_786
  let c0_i32_787 : BitVec 32 := 0#32
  let v1625 : BitVec 1 := Scalar.cmpi .ne v1624 c0_i32_787
  v1625

def k0_off10 (i : grid0.Coords) (c0_i32_800 : BitVec 32) : Fin 5 → Nat :=
  let c0_803 : Index := 0#32
  let c0_804 : Index := 0#32
  let arg2 : BitVec 32 := BitVec.ofNat 32 (i 2).val
  let v1640 : BitVec 32 := Scalar.subi arg2 c0_i32_800
  let c1_i32_801 : BitVec 32 := 1#32
  let v1641 : BitVec 32 := Scalar.addi v1640 c1_i32_801
  let c0_i32_802 : BitVec 32 := 0#32
  let v1642 : BitVec 32 := Scalar.maxsi v1641 c0_i32_802
  let v1643 : Index := Scalar.indexCast v1642
  let c0_805 : Index := 0#32
  let c0_806 : Index := 0#32
  ![0, 0, v1643.toNat, 0, 0]
def k0_off11 (i : grid0.Coords) (c0_i32_1030 : BitVec 32) : Fin 5 → Nat :=
  let c0_1033 : Index := 0#32
  let c0_1034 : Index := 0#32
  let arg2 : BitVec 32 := BitVec.ofNat 32 (i 2).val
  let v1947 : BitVec 32 := Scalar.subi arg2 c0_i32_1030
  let c1_i32_1031 : BitVec 32 := 1#32
  let v1948 : BitVec 32 := Scalar.addi v1947 c1_i32_1031
  let c0_i32_1032 : BitVec 32 := 0#32
  let v1949 : BitVec 32 := Scalar.maxsi v1948 c0_i32_1032
  let v1950 : Index := Scalar.indexCast v1949
  let c64_1035 : Index := 64#32
  let c0_1036 : Index := 0#32
  ![0, 0, v1950.toNat, 64, 0]
def k0_off12 (i : grid0.Coords) (c0_i32_1271 : BitVec 32) : Fin 5 → Nat :=
  let c0_1274 : Index := 0#32
  let c1_1275 : Index := 1#32
  let arg2 : BitVec 32 := BitVec.ofNat 32 (i 2).val
  let v2254 : BitVec 32 := Scalar.subi arg2 c0_i32_1271
  let c1_i32_1272 : BitVec 32 := 1#32
  let v2255 : BitVec 32 := Scalar.addi v2254 c1_i32_1272
  let c0_i32_1273 : BitVec 32 := 0#32
  let v2256 : BitVec 32 := Scalar.maxsi v2255 c0_i32_1273
  let v2257 : Index := Scalar.indexCast v2256
  let c0_1276 : Index := 0#32
  let c0_1277 : Index := 0#32
  ![0, 1, v2257.toNat, 0, 0]
def k0_off13 (i : grid0.Coords) (c0_i32_1512 : BitVec 32) : Fin 5 → Nat :=
  let c0_1515 : Index := 0#32
  let c1_1516 : Index := 1#32
  let arg2 : BitVec 32 := BitVec.ofNat 32 (i 2).val
  let v2561 : BitVec 32 := Scalar.subi arg2 c0_i32_1512
  let c1_i32_1513 : BitVec 32 := 1#32
  let v2562 : BitVec 32 := Scalar.addi v2561 c1_i32_1513
  let c0_i32_1514 : BitVec 32 := 0#32
  let v2563 : BitVec 32 := Scalar.maxsi v2562 c0_i32_1514
  let v2564 : Index := Scalar.indexCast v2563
  let c64_1517 : Index := 64#32
  let c0_1518 : Index := 0#32
  ![0, 1, v2564.toNat, 64, 0]
def k0_off14 (i : grid0.Coords) (c0_i32_1756 : BitVec 32) : Fin 5 → Nat :=
  let c0_1759 : Index := 0#32
  let c2_1760 : Index := 2#32
  let arg2 : BitVec 32 := BitVec.ofNat 32 (i 2).val
  let v2870 : BitVec 32 := Scalar.subi arg2 c0_i32_1756
  let c1_i32_1757 : BitVec 32 := 1#32
  let v2871 : BitVec 32 := Scalar.addi v2870 c1_i32_1757
  let c0_i32_1758 : BitVec 32 := 0#32
  let v2872 : BitVec 32 := Scalar.maxsi v2871 c0_i32_1758
  let v2873 : Index := Scalar.indexCast v2872
  let c0_1761 : Index := 0#32
  let c0_1762 : Index := 0#32
  ![0, 2, v2873.toNat, 0, 0]
def k0_off15 (i : grid0.Coords) (c0_i32_1997 : BitVec 32) : Fin 5 → Nat :=
  let c0_2000 : Index := 0#32
  let c2_2001 : Index := 2#32
  let arg2 : BitVec 32 := BitVec.ofNat 32 (i 2).val
  let v3177 : BitVec 32 := Scalar.subi arg2 c0_i32_1997
  let c1_i32_1998 : BitVec 32 := 1#32
  let v3178 : BitVec 32 := Scalar.addi v3177 c1_i32_1998
  let c0_i32_1999 : BitVec 32 := 0#32
  let v3179 : BitVec 32 := Scalar.maxsi v3178 c0_i32_1999
  let v3180 : Index := Scalar.indexCast v3179
  let c64_2002 : Index := 64#32
  let c0_2003 : Index := 0#32
  ![0, 2, v3180.toNat, 64, 0]
def k0_off16 (i : grid0.Coords) (c0_i32_2238 : BitVec 32) : Fin 5 → Nat :=
  let c0_2241 : Index := 0#32
  let c3_2242 : Index := 3#32
  let arg2 : BitVec 32 := BitVec.ofNat 32 (i 2).val
  let v3484 : BitVec 32 := Scalar.subi arg2 c0_i32_2238
  let c1_i32_2239 : BitVec 32 := 1#32
  let v3485 : BitVec 32 := Scalar.addi v3484 c1_i32_2239
  let c0_i32_2240 : BitVec 32 := 0#32
  let v3486 : BitVec 32 := Scalar.maxsi v3485 c0_i32_2240
  let v3487 : Index := Scalar.indexCast v3486
  let c0_2243 : Index := 0#32
  let c0_2244 : Index := 0#32
  ![0, 3, v3487.toNat, 0, 0]
def k0_off17 (i : grid0.Coords) (c0_i32_2479 : BitVec 32) : Fin 5 → Nat :=
  let c0_2482 : Index := 0#32
  let c3_2483 : Index := 3#32
  let arg2 : BitVec 32 := BitVec.ofNat 32 (i 2).val
  let v3791 : BitVec 32 := Scalar.subi arg2 c0_i32_2479
  let c1_i32_2480 : BitVec 32 := 1#32
  let v3792 : BitVec 32 := Scalar.addi v3791 c1_i32_2480
  let c0_i32_2481 : BitVec 32 := 0#32
  let v3793 : BitVec 32 := Scalar.maxsi v3792 c0_i32_2481
  let v3794 : Index := Scalar.indexCast v3793
  let c64_2484 : Index := 64#32
  let c0_2485 : Index := 0#32
  ![0, 3, v3794.toNat, 64, 0]
def k0_off18 (i : grid0.Coords) (c0_i32_800 : BitVec 32) : Fin 5 → Nat :=
  let c0_803 : Index := 0#32
  let c0_804 : Index := 0#32
  let arg2 : BitVec 32 := BitVec.ofNat 32 (i 2).val
  let v1640 : BitVec 32 := Scalar.subi arg2 c0_i32_800
  let c1_i32_801 : BitVec 32 := 1#32
  let v1641 : BitVec 32 := Scalar.addi v1640 c1_i32_801
  let c0_i32_802 : BitVec 32 := 0#32
  let v1642 : BitVec 32 := Scalar.maxsi v1641 c0_i32_802
  let v1643 : Index := Scalar.indexCast v1642
  let c0_805 : Index := 0#32
  let c0_806 : Index := 0#32
  ![0, 0, v1643.toNat, 0, 0]
def k0_off19 (i : grid0.Coords) (c0_i32_1002 : BitVec 32) : Fin 5 → Nat :=
  let c0_1005 : Index := 0#32
  let c0_1006 : Index := 0#32
  let arg2 : BitVec 32 := BitVec.ofNat 32 (i 2).val
  let v1909 : BitVec 32 := Scalar.subi arg2 c0_i32_1002
  let c1_i32_1003 : BitVec 32 := 1#32
  let v1910 : BitVec 32 := Scalar.addi v1909 c1_i32_1003
  let c0_i32_1004 : BitVec 32 := 0#32
  let v1911 : BitVec 32 := Scalar.maxsi v1910 c0_i32_1004
  let v1912 : Index := Scalar.indexCast v1911
  let c64_1007 : Index := 64#32
  let c0_1008 : Index := 0#32
  ![0, 0, v1912.toNat, 64, 0]
def k0_off20 (i : grid0.Coords) (c0_i32_1213 : BitVec 32) : Fin 5 → Nat :=
  let c0_1216 : Index := 0#32
  let c1_1217 : Index := 1#32
  let arg2 : BitVec 32 := BitVec.ofNat 32 (i 2).val
  let v2178 : BitVec 32 := Scalar.subi arg2 c0_i32_1213
  let c1_i32_1214 : BitVec 32 := 1#32
  let v2179 : BitVec 32 := Scalar.addi v2178 c1_i32_1214
  let c0_i32_1215 : BitVec 32 := 0#32
  let v2180 : BitVec 32 := Scalar.maxsi v2179 c0_i32_1215
  let v2181 : Index := Scalar.indexCast v2180
  let c0_1218 : Index := 0#32
  let c0_1219 : Index := 0#32
  ![0, 1, v2181.toNat, 0, 0]
def k0_off21 (i : grid0.Coords) (c0_i32_1424 : BitVec 32) : Fin 5 → Nat :=
  let c0_1427 : Index := 0#32
  let c1_1428 : Index := 1#32
  let arg2 : BitVec 32 := BitVec.ofNat 32 (i 2).val
  let v2447 : BitVec 32 := Scalar.subi arg2 c0_i32_1424
  let c1_i32_1425 : BitVec 32 := 1#32
  let v2448 : BitVec 32 := Scalar.addi v2447 c1_i32_1425
  let c0_i32_1426 : BitVec 32 := 0#32
  let v2449 : BitVec 32 := Scalar.maxsi v2448 c0_i32_1426
  let v2450 : Index := Scalar.indexCast v2449
  let c64_1429 : Index := 64#32
  let c0_1430 : Index := 0#32
  ![0, 1, v2450.toNat, 64, 0]
def k0_off22 (i : grid0.Coords) (c0_i32_1638 : BitVec 32) : Fin 5 → Nat :=
  let c0_1641 : Index := 0#32
  let c2_1642 : Index := 2#32
  let arg2 : BitVec 32 := BitVec.ofNat 32 (i 2).val
  let v2718 : BitVec 32 := Scalar.subi arg2 c0_i32_1638
  let c1_i32_1639 : BitVec 32 := 1#32
  let v2719 : BitVec 32 := Scalar.addi v2718 c1_i32_1639
  let c0_i32_1640 : BitVec 32 := 0#32
  let v2720 : BitVec 32 := Scalar.maxsi v2719 c0_i32_1640
  let v2721 : Index := Scalar.indexCast v2720
  let c0_1643 : Index := 0#32
  let c0_1644 : Index := 0#32
  ![0, 2, v2721.toNat, 0, 0]
def k0_off23 (i : grid0.Coords) (c0_i32_1849 : BitVec 32) : Fin 5 → Nat :=
  let c0_1852 : Index := 0#32
  let c2_1853 : Index := 2#32
  let arg2 : BitVec 32 := BitVec.ofNat 32 (i 2).val
  let v2987 : BitVec 32 := Scalar.subi arg2 c0_i32_1849
  let c1_i32_1850 : BitVec 32 := 1#32
  let v2988 : BitVec 32 := Scalar.addi v2987 c1_i32_1850
  let c0_i32_1851 : BitVec 32 := 0#32
  let v2989 : BitVec 32 := Scalar.maxsi v2988 c0_i32_1851
  let v2990 : Index := Scalar.indexCast v2989
  let c64_1854 : Index := 64#32
  let c0_1855 : Index := 0#32
  ![0, 2, v2990.toNat, 64, 0]
def k0_off24 (i : grid0.Coords) (c0_i32_2060 : BitVec 32) : Fin 5 → Nat :=
  let c0_2063 : Index := 0#32
  let c3_2064 : Index := 3#32
  let arg2 : BitVec 32 := BitVec.ofNat 32 (i 2).val
  let v3256 : BitVec 32 := Scalar.subi arg2 c0_i32_2060
  let c1_i32_2061 : BitVec 32 := 1#32
  let v3257 : BitVec 32 := Scalar.addi v3256 c1_i32_2061
  let c0_i32_2062 : BitVec 32 := 0#32
  let v3258 : BitVec 32 := Scalar.maxsi v3257 c0_i32_2062
  let v3259 : Index := Scalar.indexCast v3258
  let c0_2065 : Index := 0#32
  let c0_2066 : Index := 0#32
  ![0, 3, v3259.toNat, 0, 0]
def k0_off25 (i : grid0.Coords) (c0_i32_2271 : BitVec 32) : Fin 5 → Nat :=
  let c0_2274 : Index := 0#32
  let c3_2275 : Index := 3#32
  let arg2 : BitVec 32 := BitVec.ofNat 32 (i 2).val
  let v3525 : BitVec 32 := Scalar.subi arg2 c0_i32_2271
  let c1_i32_2272 : BitVec 32 := 1#32
  let v3526 : BitVec 32 := Scalar.addi v3525 c1_i32_2272
  let c0_i32_2273 : BitVec 32 := 0#32
  let v3527 : BitVec 32 := Scalar.maxsi v3526 c0_i32_2273
  let v3528 : Index := Scalar.indexCast v3527
  let c64_2276 : Index := 64#32
  let c0_2277 : Index := 0#32
  ![0, 3, v3528.toNat, 64, 0]
def k0_off26 (i : grid0.Coords) (c0_i32_798 : BitVec 32) : Fin 5 → Nat :=
  let c0_801 : Index := 0#32
  let c0_802 : Index := 0#32
  let arg2 : BitVec 32 := BitVec.ofNat 32 (i 2).val
  let v1637 : BitVec 32 := Scalar.subi arg2 c0_i32_798
  let c1_i32_799 : BitVec 32 := 1#32
  let v1638 : BitVec 32 := Scalar.addi v1637 c1_i32_799
  let c0_i32_800 : BitVec 32 := 0#32
  let v1639 : BitVec 32 := Scalar.maxsi v1638 c0_i32_800
  let v1640 : Index := Scalar.indexCast v1639
  let c0_803 : Index := 0#32
  let c0_804 : Index := 0#32
  ![0, 0, v1640.toNat, 0, 0]
def k0_off27 (i : grid0.Coords) (c0_i32_972 : BitVec 32) : Fin 5 → Nat :=
  let c0_975 : Index := 0#32
  let c0_976 : Index := 0#32
  let arg2 : BitVec 32 := BitVec.ofNat 32 (i 2).val
  let v1868 : BitVec 32 := Scalar.subi arg2 c0_i32_972
  let c1_i32_973 : BitVec 32 := 1#32
  let v1869 : BitVec 32 := Scalar.addi v1868 c1_i32_973
  let c0_i32_974 : BitVec 32 := 0#32
  let v1870 : BitVec 32 := Scalar.maxsi v1869 c0_i32_974
  let v1871 : Index := Scalar.indexCast v1870
  let c64_977 : Index := 64#32
  let c0_978 : Index := 0#32
  ![0, 0, v1871.toNat, 64, 0]
def k0_off28 (i : grid0.Coords) (c0_i32_1153 : BitVec 32) : Fin 5 → Nat :=
  let c0_1156 : Index := 0#32
  let c1_1157 : Index := 1#32
  let arg2 : BitVec 32 := BitVec.ofNat 32 (i 2).val
  let v2099 : BitVec 32 := Scalar.subi arg2 c0_i32_1153
  let c1_i32_1154 : BitVec 32 := 1#32
  let v2100 : BitVec 32 := Scalar.addi v2099 c1_i32_1154
  let c0_i32_1155 : BitVec 32 := 0#32
  let v2101 : BitVec 32 := Scalar.maxsi v2100 c0_i32_1155
  let v2102 : Index := Scalar.indexCast v2101
  let c0_1158 : Index := 0#32
  let c0_1159 : Index := 0#32
  ![0, 1, v2102.toNat, 0, 0]
def k0_off29 (i : grid0.Coords) (c0_i32_1334 : BitVec 32) : Fin 5 → Nat :=
  let c0_1337 : Index := 0#32
  let c1_1338 : Index := 1#32
  let arg2 : BitVec 32 := BitVec.ofNat 32 (i 2).val
  let v2330 : BitVec 32 := Scalar.subi arg2 c0_i32_1334
  let c1_i32_1335 : BitVec 32 := 1#32
  let v2331 : BitVec 32 := Scalar.addi v2330 c1_i32_1335
  let c0_i32_1336 : BitVec 32 := 0#32
  let v2332 : BitVec 32 := Scalar.maxsi v2331 c0_i32_1336
  let v2333 : Index := Scalar.indexCast v2332
  let c64_1339 : Index := 64#32
  let c0_1340 : Index := 0#32
  ![0, 1, v2333.toNat, 64, 0]
def k0_off30 (i : grid0.Coords) (c0_i32_1518 : BitVec 32) : Fin 5 → Nat :=
  let c0_1521 : Index := 0#32
  let c2_1522 : Index := 2#32
  let arg2 : BitVec 32 := BitVec.ofNat 32 (i 2).val
  let v2563 : BitVec 32 := Scalar.subi arg2 c0_i32_1518
  let c1_i32_1519 : BitVec 32 := 1#32
  let v2564 : BitVec 32 := Scalar.addi v2563 c1_i32_1519
  let c0_i32_1520 : BitVec 32 := 0#32
  let v2565 : BitVec 32 := Scalar.maxsi v2564 c0_i32_1520
  let v2566 : Index := Scalar.indexCast v2565
  let c0_1523 : Index := 0#32
  let c0_1524 : Index := 0#32
  ![0, 2, v2566.toNat, 0, 0]
def k0_off31 (i : grid0.Coords) (c0_i32_1699 : BitVec 32) : Fin 5 → Nat :=
  let c0_1702 : Index := 0#32
  let c2_1703 : Index := 2#32
  let arg2 : BitVec 32 := BitVec.ofNat 32 (i 2).val
  let v2794 : BitVec 32 := Scalar.subi arg2 c0_i32_1699
  let c1_i32_1700 : BitVec 32 := 1#32
  let v2795 : BitVec 32 := Scalar.addi v2794 c1_i32_1700
  let c0_i32_1701 : BitVec 32 := 0#32
  let v2796 : BitVec 32 := Scalar.maxsi v2795 c0_i32_1701
  let v2797 : Index := Scalar.indexCast v2796
  let c64_1704 : Index := 64#32
  let c0_1705 : Index := 0#32
  ![0, 2, v2797.toNat, 64, 0]
def k0_off32 (i : grid0.Coords) (c0_i32_1880 : BitVec 32) : Fin 5 → Nat :=
  let c0_1883 : Index := 0#32
  let c3_1884 : Index := 3#32
  let arg2 : BitVec 32 := BitVec.ofNat 32 (i 2).val
  let v3025 : BitVec 32 := Scalar.subi arg2 c0_i32_1880
  let c1_i32_1881 : BitVec 32 := 1#32
  let v3026 : BitVec 32 := Scalar.addi v3025 c1_i32_1881
  let c0_i32_1882 : BitVec 32 := 0#32
  let v3027 : BitVec 32 := Scalar.maxsi v3026 c0_i32_1882
  let v3028 : Index := Scalar.indexCast v3027
  let c0_1885 : Index := 0#32
  let c0_1886 : Index := 0#32
  ![0, 3, v3028.toNat, 0, 0]
def k0_off33 (i : grid0.Coords) (c0_i32_2061 : BitVec 32) : Fin 5 → Nat :=
  let c0_2064 : Index := 0#32
  let c3_2065 : Index := 3#32
  let arg2 : BitVec 32 := BitVec.ofNat 32 (i 2).val
  let v3256 : BitVec 32 := Scalar.subi arg2 c0_i32_2061
  let c1_i32_2062 : BitVec 32 := 1#32
  let v3257 : BitVec 32 := Scalar.addi v3256 c1_i32_2062
  let c0_i32_2063 : BitVec 32 := 0#32
  let v3258 : BitVec 32 := Scalar.maxsi v3257 c0_i32_2063
  let v3259 : Index := Scalar.indexCast v3258
  let c64_2066 : Index := 64#32
  let c0_2067 : Index := 0#32
  ![0, 3, v3259.toNat, 64, 0]
def k0_off34 (i : grid0.Coords) (c0_i32_796 : BitVec 32) : Fin 5 → Nat :=
  let c0_799 : Index := 0#32
  let c0_800 : Index := 0#32
  let arg2 : BitVec 32 := BitVec.ofNat 32 (i 2).val
  let v1634 : BitVec 32 := Scalar.subi arg2 c0_i32_796
  let c1_i32_797 : BitVec 32 := 1#32
  let v1635 : BitVec 32 := Scalar.addi v1634 c1_i32_797
  let c0_i32_798 : BitVec 32 := 0#32
  let v1636 : BitVec 32 := Scalar.maxsi v1635 c0_i32_798
  let v1637 : Index := Scalar.indexCast v1636
  let c0_801 : Index := 0#32
  let c0_802 : Index := 0#32
  ![0, 0, v1637.toNat, 0, 0]
def k0_off35 (i : grid0.Coords) (c0_i32_942 : BitVec 32) : Fin 5 → Nat :=
  let c0_945 : Index := 0#32
  let c0_946 : Index := 0#32
  let arg2 : BitVec 32 := BitVec.ofNat 32 (i 2).val
  let v1827 : BitVec 32 := Scalar.subi arg2 c0_i32_942
  let c1_i32_943 : BitVec 32 := 1#32
  let v1828 : BitVec 32 := Scalar.addi v1827 c1_i32_943
  let c0_i32_944 : BitVec 32 := 0#32
  let v1829 : BitVec 32 := Scalar.maxsi v1828 c0_i32_944
  let v1830 : Index := Scalar.indexCast v1829
  let c64_947 : Index := 64#32
  let c0_948 : Index := 0#32
  ![0, 0, v1830.toNat, 64, 0]
def k0_off36 (i : grid0.Coords) (c0_i32_1093 : BitVec 32) : Fin 5 → Nat :=
  let c0_1096 : Index := 0#32
  let c1_1097 : Index := 1#32
  let arg2 : BitVec 32 := BitVec.ofNat 32 (i 2).val
  let v2020 : BitVec 32 := Scalar.subi arg2 c0_i32_1093
  let c1_i32_1094 : BitVec 32 := 1#32
  let v2021 : BitVec 32 := Scalar.addi v2020 c1_i32_1094
  let c0_i32_1095 : BitVec 32 := 0#32
  let v2022 : BitVec 32 := Scalar.maxsi v2021 c0_i32_1095
  let v2023 : Index := Scalar.indexCast v2022
  let c0_1098 : Index := 0#32
  let c0_1099 : Index := 0#32
  ![0, 1, v2023.toNat, 0, 0]
def k0_off37 (i : grid0.Coords) (c0_i32_1244 : BitVec 32) : Fin 5 → Nat :=
  let c0_1247 : Index := 0#32
  let c1_1248 : Index := 1#32
  let arg2 : BitVec 32 := BitVec.ofNat 32 (i 2).val
  let v2213 : BitVec 32 := Scalar.subi arg2 c0_i32_1244
  let c1_i32_1245 : BitVec 32 := 1#32
  let v2214 : BitVec 32 := Scalar.addi v2213 c1_i32_1245
  let c0_i32_1246 : BitVec 32 := 0#32
  let v2215 : BitVec 32 := Scalar.maxsi v2214 c0_i32_1246
  let v2216 : Index := Scalar.indexCast v2215
  let c64_1249 : Index := 64#32
  let c0_1250 : Index := 0#32
  ![0, 1, v2216.toNat, 64, 0]
def k0_off38 (i : grid0.Coords) (c0_i32_1398 : BitVec 32) : Fin 5 → Nat :=
  let c0_1401 : Index := 0#32
  let c2_1402 : Index := 2#32
  let arg2 : BitVec 32 := BitVec.ofNat 32 (i 2).val
  let v2408 : BitVec 32 := Scalar.subi arg2 c0_i32_1398
  let c1_i32_1399 : BitVec 32 := 1#32
  let v2409 : BitVec 32 := Scalar.addi v2408 c1_i32_1399
  let c0_i32_1400 : BitVec 32 := 0#32
  let v2410 : BitVec 32 := Scalar.maxsi v2409 c0_i32_1400
  let v2411 : Index := Scalar.indexCast v2410
  let c0_1403 : Index := 0#32
  let c0_1404 : Index := 0#32
  ![0, 2, v2411.toNat, 0, 0]
def k0_off39 (i : grid0.Coords) (c0_i32_1549 : BitVec 32) : Fin 5 → Nat :=
  let c0_1552 : Index := 0#32
  let c2_1553 : Index := 2#32
  let arg2 : BitVec 32 := BitVec.ofNat 32 (i 2).val
  let v2601 : BitVec 32 := Scalar.subi arg2 c0_i32_1549
  let c1_i32_1550 : BitVec 32 := 1#32
  let v2602 : BitVec 32 := Scalar.addi v2601 c1_i32_1550
  let c0_i32_1551 : BitVec 32 := 0#32
  let v2603 : BitVec 32 := Scalar.maxsi v2602 c0_i32_1551
  let v2604 : Index := Scalar.indexCast v2603
  let c64_1554 : Index := 64#32
  let c0_1555 : Index := 0#32
  ![0, 2, v2604.toNat, 64, 0]
def k0_off40 (i : grid0.Coords) (c0_i32_1700 : BitVec 32) : Fin 5 → Nat :=
  let c0_1703 : Index := 0#32
  let c3_1704 : Index := 3#32
  let arg2 : BitVec 32 := BitVec.ofNat 32 (i 2).val
  let v2794 : BitVec 32 := Scalar.subi arg2 c0_i32_1700
  let c1_i32_1701 : BitVec 32 := 1#32
  let v2795 : BitVec 32 := Scalar.addi v2794 c1_i32_1701
  let c0_i32_1702 : BitVec 32 := 0#32
  let v2796 : BitVec 32 := Scalar.maxsi v2795 c0_i32_1702
  let v2797 : Index := Scalar.indexCast v2796
  let c0_1705 : Index := 0#32
  let c0_1706 : Index := 0#32
  ![0, 3, v2797.toNat, 0, 0]
def k0_off41 (i : grid0.Coords) (c0_i32_1851 : BitVec 32) : Fin 5 → Nat :=
  let c0_1854 : Index := 0#32
  let c3_1855 : Index := 3#32
  let arg2 : BitVec 32 := BitVec.ofNat 32 (i 2).val
  let v2987 : BitVec 32 := Scalar.subi arg2 c0_i32_1851
  let c1_i32_1852 : BitVec 32 := 1#32
  let v2988 : BitVec 32 := Scalar.addi v2987 c1_i32_1852
  let c0_i32_1853 : BitVec 32 := 0#32
  let v2989 : BitVec 32 := Scalar.maxsi v2988 c0_i32_1853
  let v2990 : Index := Scalar.indexCast v2989
  let c64_1856 : Index := 64#32
  let c0_1857 : Index := 0#32
  ![0, 3, v2990.toNat, 64, 0]
def k0_off42 (i : grid0.Coords) (c0_i32_794 : BitVec 32) : Fin 5 → Nat :=
  let c0_797 : Index := 0#32
  let c0_798 : Index := 0#32
  let arg2 : BitVec 32 := BitVec.ofNat 32 (i 2).val
  let v1631 : BitVec 32 := Scalar.subi arg2 c0_i32_794
  let c1_i32_795 : BitVec 32 := 1#32
  let v1632 : BitVec 32 := Scalar.addi v1631 c1_i32_795
  let c0_i32_796 : BitVec 32 := 0#32
  let v1633 : BitVec 32 := Scalar.maxsi v1632 c0_i32_796
  let v1634 : Index := Scalar.indexCast v1633
  let c0_799 : Index := 0#32
  let c0_800 : Index := 0#32
  ![0, 0, v1634.toNat, 0, 0]
def k0_off43 (i : grid0.Coords) (c0_i32_912 : BitVec 32) : Fin 5 → Nat :=
  let c0_915 : Index := 0#32
  let c0_916 : Index := 0#32
  let arg2 : BitVec 32 := BitVec.ofNat 32 (i 2).val
  let v1786 : BitVec 32 := Scalar.subi arg2 c0_i32_912
  let c1_i32_913 : BitVec 32 := 1#32
  let v1787 : BitVec 32 := Scalar.addi v1786 c1_i32_913
  let c0_i32_914 : BitVec 32 := 0#32
  let v1788 : BitVec 32 := Scalar.maxsi v1787 c0_i32_914
  let v1789 : Index := Scalar.indexCast v1788
  let c64_917 : Index := 64#32
  let c0_918 : Index := 0#32
  ![0, 0, v1789.toNat, 64, 0]
def k0_off44 (i : grid0.Coords) (c0_i32_1033 : BitVec 32) : Fin 5 → Nat :=
  let c0_1036 : Index := 0#32
  let c1_1037 : Index := 1#32
  let arg2 : BitVec 32 := BitVec.ofNat 32 (i 2).val
  let v1941 : BitVec 32 := Scalar.subi arg2 c0_i32_1033
  let c1_i32_1034 : BitVec 32 := 1#32
  let v1942 : BitVec 32 := Scalar.addi v1941 c1_i32_1034
  let c0_i32_1035 : BitVec 32 := 0#32
  let v1943 : BitVec 32 := Scalar.maxsi v1942 c0_i32_1035
  let v1944 : Index := Scalar.indexCast v1943
  let c0_1038 : Index := 0#32
  let c0_1039 : Index := 0#32
  ![0, 1, v1944.toNat, 0, 0]
def k0_off45 (i : grid0.Coords) (c0_i32_1154 : BitVec 32) : Fin 5 → Nat :=
  let c0_1157 : Index := 0#32
  let c1_1158 : Index := 1#32
  let arg2 : BitVec 32 := BitVec.ofNat 32 (i 2).val
  let v2096 : BitVec 32 := Scalar.subi arg2 c0_i32_1154
  let c1_i32_1155 : BitVec 32 := 1#32
  let v2097 : BitVec 32 := Scalar.addi v2096 c1_i32_1155
  let c0_i32_1156 : BitVec 32 := 0#32
  let v2098 : BitVec 32 := Scalar.maxsi v2097 c0_i32_1156
  let v2099 : Index := Scalar.indexCast v2098
  let c64_1159 : Index := 64#32
  let c0_1160 : Index := 0#32
  ![0, 1, v2099.toNat, 64, 0]
def k0_off46 (i : grid0.Coords) (c0_i32_1278 : BitVec 32) : Fin 5 → Nat :=
  let c0_1281 : Index := 0#32
  let c2_1282 : Index := 2#32
  let arg2 : BitVec 32 := BitVec.ofNat 32 (i 2).val
  let v2253 : BitVec 32 := Scalar.subi arg2 c0_i32_1278
  let c1_i32_1279 : BitVec 32 := 1#32
  let v2254 : BitVec 32 := Scalar.addi v2253 c1_i32_1279
  let c0_i32_1280 : BitVec 32 := 0#32
  let v2255 : BitVec 32 := Scalar.maxsi v2254 c0_i32_1280
  let v2256 : Index := Scalar.indexCast v2255
  let c0_1283 : Index := 0#32
  let c0_1284 : Index := 0#32
  ![0, 2, v2256.toNat, 0, 0]
def k0_off47 (i : grid0.Coords) (c0_i32_1399 : BitVec 32) : Fin 5 → Nat :=
  let c0_1402 : Index := 0#32
  let c2_1403 : Index := 2#32
  let arg2 : BitVec 32 := BitVec.ofNat 32 (i 2).val
  let v2408 : BitVec 32 := Scalar.subi arg2 c0_i32_1399
  let c1_i32_1400 : BitVec 32 := 1#32
  let v2409 : BitVec 32 := Scalar.addi v2408 c1_i32_1400
  let c0_i32_1401 : BitVec 32 := 0#32
  let v2410 : BitVec 32 := Scalar.maxsi v2409 c0_i32_1401
  let v2411 : Index := Scalar.indexCast v2410
  let c64_1404 : Index := 64#32
  let c0_1405 : Index := 0#32
  ![0, 2, v2411.toNat, 64, 0]
def k0_off48 (i : grid0.Coords) (c0_i32_1520 : BitVec 32) : Fin 5 → Nat :=
  let c0_1523 : Index := 0#32
  let c3_1524 : Index := 3#32
  let arg2 : BitVec 32 := BitVec.ofNat 32 (i 2).val
  let v2563 : BitVec 32 := Scalar.subi arg2 c0_i32_1520
  let c1_i32_1521 : BitVec 32 := 1#32
  let v2564 : BitVec 32 := Scalar.addi v2563 c1_i32_1521
  let c0_i32_1522 : BitVec 32 := 0#32
  let v2565 : BitVec 32 := Scalar.maxsi v2564 c0_i32_1522
  let v2566 : Index := Scalar.indexCast v2565
  let c0_1525 : Index := 0#32
  let c0_1526 : Index := 0#32
  ![0, 3, v2566.toNat, 0, 0]
def k0_off49 (i : grid0.Coords) (c0_i32_1641 : BitVec 32) : Fin 5 → Nat :=
  let c0_1644 : Index := 0#32
  let c3_1645 : Index := 3#32
  let arg2 : BitVec 32 := BitVec.ofNat 32 (i 2).val
  let v2718 : BitVec 32 := Scalar.subi arg2 c0_i32_1641
  let c1_i32_1642 : BitVec 32 := 1#32
  let v2719 : BitVec 32 := Scalar.addi v2718 c1_i32_1642
  let c0_i32_1643 : BitVec 32 := 0#32
  let v2720 : BitVec 32 := Scalar.maxsi v2719 c0_i32_1643
  let v2721 : Index := Scalar.indexCast v2720
  let c64_1646 : Index := 64#32
  let c0_1647 : Index := 0#32
  ![0, 3, v2721.toNat, 64, 0]
def k0_off50 (i : grid0.Coords) (c0_i32_792 : BitVec 32) : Fin 5 → Nat :=
  let c0_795 : Index := 0#32
  let c0_796 : Index := 0#32
  let arg2 : BitVec 32 := BitVec.ofNat 32 (i 2).val
  let v1628 : BitVec 32 := Scalar.subi arg2 c0_i32_792
  let c1_i32_793 : BitVec 32 := 1#32
  let v1629 : BitVec 32 := Scalar.addi v1628 c1_i32_793
  let c0_i32_794 : BitVec 32 := 0#32
  let v1630 : BitVec 32 := Scalar.maxsi v1629 c0_i32_794
  let v1631 : Index := Scalar.indexCast v1630
  let c0_797 : Index := 0#32
  let c0_798 : Index := 0#32
  ![0, 0, v1631.toNat, 0, 0]
def k0_off51 (i : grid0.Coords) (c0_i32_882 : BitVec 32) : Fin 5 → Nat :=
  let c0_885 : Index := 0#32
  let c0_886 : Index := 0#32
  let arg2 : BitVec 32 := BitVec.ofNat 32 (i 2).val
  let v1745 : BitVec 32 := Scalar.subi arg2 c0_i32_882
  let c1_i32_883 : BitVec 32 := 1#32
  let v1746 : BitVec 32 := Scalar.addi v1745 c1_i32_883
  let c0_i32_884 : BitVec 32 := 0#32
  let v1747 : BitVec 32 := Scalar.maxsi v1746 c0_i32_884
  let v1748 : Index := Scalar.indexCast v1747
  let c64_887 : Index := 64#32
  let c0_888 : Index := 0#32
  ![0, 0, v1748.toNat, 64, 0]
def k0_off52 (i : grid0.Coords) (c0_i32_973 : BitVec 32) : Fin 5 → Nat :=
  let c0_976 : Index := 0#32
  let c1_977 : Index := 1#32
  let arg2 : BitVec 32 := BitVec.ofNat 32 (i 2).val
  let v1862 : BitVec 32 := Scalar.subi arg2 c0_i32_973
  let c1_i32_974 : BitVec 32 := 1#32
  let v1863 : BitVec 32 := Scalar.addi v1862 c1_i32_974
  let c0_i32_975 : BitVec 32 := 0#32
  let v1864 : BitVec 32 := Scalar.maxsi v1863 c0_i32_975
  let v1865 : Index := Scalar.indexCast v1864
  let c0_978 : Index := 0#32
  let c0_979 : Index := 0#32
  ![0, 1, v1865.toNat, 0, 0]
def k0_off53 (i : grid0.Coords) (c0_i32_1064 : BitVec 32) : Fin 5 → Nat :=
  let c0_1067 : Index := 0#32
  let c1_1068 : Index := 1#32
  let arg2 : BitVec 32 := BitVec.ofNat 32 (i 2).val
  let v1979 : BitVec 32 := Scalar.subi arg2 c0_i32_1064
  let c1_i32_1065 : BitVec 32 := 1#32
  let v1980 : BitVec 32 := Scalar.addi v1979 c1_i32_1065
  let c0_i32_1066 : BitVec 32 := 0#32
  let v1981 : BitVec 32 := Scalar.maxsi v1980 c0_i32_1066
  let v1982 : Index := Scalar.indexCast v1981
  let c64_1069 : Index := 64#32
  let c0_1070 : Index := 0#32
  ![0, 1, v1982.toNat, 64, 0]
def k0_off54 (i : grid0.Coords) (c0_i32_1158 : BitVec 32) : Fin 5 → Nat :=
  let c0_1161 : Index := 0#32
  let c2_1162 : Index := 2#32
  let arg2 : BitVec 32 := BitVec.ofNat 32 (i 2).val
  let v2098 : BitVec 32 := Scalar.subi arg2 c0_i32_1158
  let c1_i32_1159 : BitVec 32 := 1#32
  let v2099 : BitVec 32 := Scalar.addi v2098 c1_i32_1159
  let c0_i32_1160 : BitVec 32 := 0#32
  let v2100 : BitVec 32 := Scalar.maxsi v2099 c0_i32_1160
  let v2101 : Index := Scalar.indexCast v2100
  let c0_1163 : Index := 0#32
  let c0_1164 : Index := 0#32
  ![0, 2, v2101.toNat, 0, 0]
def k0_off55 (i : grid0.Coords) (c0_i32_1249 : BitVec 32) : Fin 5 → Nat :=
  let c0_1252 : Index := 0#32
  let c2_1253 : Index := 2#32
  let arg2 : BitVec 32 := BitVec.ofNat 32 (i 2).val
  let v2215 : BitVec 32 := Scalar.subi arg2 c0_i32_1249
  let c1_i32_1250 : BitVec 32 := 1#32
  let v2216 : BitVec 32 := Scalar.addi v2215 c1_i32_1250
  let c0_i32_1251 : BitVec 32 := 0#32
  let v2217 : BitVec 32 := Scalar.maxsi v2216 c0_i32_1251
  let v2218 : Index := Scalar.indexCast v2217
  let c64_1254 : Index := 64#32
  let c0_1255 : Index := 0#32
  ![0, 2, v2218.toNat, 64, 0]
def k0_off56 (i : grid0.Coords) (c0_i32_1340 : BitVec 32) : Fin 5 → Nat :=
  let c0_1343 : Index := 0#32
  let c3_1344 : Index := 3#32
  let arg2 : BitVec 32 := BitVec.ofNat 32 (i 2).val
  let v2332 : BitVec 32 := Scalar.subi arg2 c0_i32_1340
  let c1_i32_1341 : BitVec 32 := 1#32
  let v2333 : BitVec 32 := Scalar.addi v2332 c1_i32_1341
  let c0_i32_1342 : BitVec 32 := 0#32
  let v2334 : BitVec 32 := Scalar.maxsi v2333 c0_i32_1342
  let v2335 : Index := Scalar.indexCast v2334
  let c0_1345 : Index := 0#32
  let c0_1346 : Index := 0#32
  ![0, 3, v2335.toNat, 0, 0]
def k0_off57 (i : grid0.Coords) (c0_i32_1431 : BitVec 32) : Fin 5 → Nat :=
  let c0_1434 : Index := 0#32
  let c3_1435 : Index := 3#32
  let arg2 : BitVec 32 := BitVec.ofNat 32 (i 2).val
  let v2449 : BitVec 32 := Scalar.subi arg2 c0_i32_1431
  let c1_i32_1432 : BitVec 32 := 1#32
  let v2450 : BitVec 32 := Scalar.addi v2449 c1_i32_1432
  let c0_i32_1433 : BitVec 32 := 0#32
  let v2451 : BitVec 32 := Scalar.maxsi v2450 c0_i32_1433
  let v2452 : Index := Scalar.indexCast v2451
  let c64_1436 : Index := 64#32
  let c0_1437 : Index := 0#32
  ![0, 3, v2452.toNat, 64, 0]
def k0_off58 (i : grid0.Coords) (c0_i32_790 : BitVec 32) : Fin 5 → Nat :=
  let c0_793 : Index := 0#32
  let c0_794 : Index := 0#32
  let arg2 : BitVec 32 := BitVec.ofNat 32 (i 2).val
  let v1625 : BitVec 32 := Scalar.subi arg2 c0_i32_790
  let c1_i32_791 : BitVec 32 := 1#32
  let v1626 : BitVec 32 := Scalar.addi v1625 c1_i32_791
  let c0_i32_792 : BitVec 32 := 0#32
  let v1627 : BitVec 32 := Scalar.maxsi v1626 c0_i32_792
  let v1628 : Index := Scalar.indexCast v1627
  let c0_795 : Index := 0#32
  let c0_796 : Index := 0#32
  ![0, 0, v1628.toNat, 0, 0]
def k0_off59 (i : grid0.Coords) (c0_i32_851 : BitVec 32) : Fin 5 → Nat :=
  let c0_854 : Index := 0#32
  let c0_855 : Index := 0#32
  let arg2 : BitVec 32 := BitVec.ofNat 32 (i 2).val
  let v1704 : BitVec 32 := Scalar.subi arg2 c0_i32_851
  let c1_i32_852 : BitVec 32 := 1#32
  let v1705 : BitVec 32 := Scalar.addi v1704 c1_i32_852
  let c0_i32_853 : BitVec 32 := 0#32
  let v1706 : BitVec 32 := Scalar.maxsi v1705 c0_i32_853
  let v1707 : Index := Scalar.indexCast v1706
  let c64_856 : Index := 64#32
  let c0_857 : Index := 0#32
  ![0, 0, v1707.toNat, 64, 0]
def k0_off60 (i : grid0.Coords) (c0_i32_912 : BitVec 32) : Fin 5 → Nat :=
  let c0_915 : Index := 0#32
  let c1_916 : Index := 1#32
  let arg2 : BitVec 32 := BitVec.ofNat 32 (i 2).val
  let v1783 : BitVec 32 := Scalar.subi arg2 c0_i32_912
  let c1_i32_913 : BitVec 32 := 1#32
  let v1784 : BitVec 32 := Scalar.addi v1783 c1_i32_913
  let c0_i32_914 : BitVec 32 := 0#32
  let v1785 : BitVec 32 := Scalar.maxsi v1784 c0_i32_914
  let v1786 : Index := Scalar.indexCast v1785
  let c0_917 : Index := 0#32
  let c0_918 : Index := 0#32
  ![0, 1, v1786.toNat, 0, 0]
def k0_off61 (i : grid0.Coords) (c0_i32_973 : BitVec 32) : Fin 5 → Nat :=
  let c0_976 : Index := 0#32
  let c1_977 : Index := 1#32
  let arg2 : BitVec 32 := BitVec.ofNat 32 (i 2).val
  let v1862 : BitVec 32 := Scalar.subi arg2 c0_i32_973
  let c1_i32_974 : BitVec 32 := 1#32
  let v1863 : BitVec 32 := Scalar.addi v1862 c1_i32_974
  let c0_i32_975 : BitVec 32 := 0#32
  let v1864 : BitVec 32 := Scalar.maxsi v1863 c0_i32_975
  let v1865 : Index := Scalar.indexCast v1864
  let c64_978 : Index := 64#32
  let c0_979 : Index := 0#32
  ![0, 1, v1865.toNat, 64, 0]
def k0_off62 (i : grid0.Coords) (c0_i32_1037 : BitVec 32) : Fin 5 → Nat :=
  let c0_1040 : Index := 0#32
  let c2_1041 : Index := 2#32
  let arg2 : BitVec 32 := BitVec.ofNat 32 (i 2).val
  let v1943 : BitVec 32 := Scalar.subi arg2 c0_i32_1037
  let c1_i32_1038 : BitVec 32 := 1#32
  let v1944 : BitVec 32 := Scalar.addi v1943 c1_i32_1038
  let c0_i32_1039 : BitVec 32 := 0#32
  let v1945 : BitVec 32 := Scalar.maxsi v1944 c0_i32_1039
  let v1946 : Index := Scalar.indexCast v1945
  let c0_1042 : Index := 0#32
  let c0_1043 : Index := 0#32
  ![0, 2, v1946.toNat, 0, 0]
def k0_off63 (i : grid0.Coords) (c0_i32_1098 : BitVec 32) : Fin 5 → Nat :=
  let c0_1101 : Index := 0#32
  let c2_1102 : Index := 2#32
  let arg2 : BitVec 32 := BitVec.ofNat 32 (i 2).val
  let v2022 : BitVec 32 := Scalar.subi arg2 c0_i32_1098
  let c1_i32_1099 : BitVec 32 := 1#32
  let v2023 : BitVec 32 := Scalar.addi v2022 c1_i32_1099
  let c0_i32_1100 : BitVec 32 := 0#32
  let v2024 : BitVec 32 := Scalar.maxsi v2023 c0_i32_1100
  let v2025 : Index := Scalar.indexCast v2024
  let c64_1103 : Index := 64#32
  let c0_1104 : Index := 0#32
  ![0, 2, v2025.toNat, 64, 0]
def k0_off64 (i : grid0.Coords) (c0_i32_1159 : BitVec 32) : Fin 5 → Nat :=
  let c0_1162 : Index := 0#32
  let c3_1163 : Index := 3#32
  let arg2 : BitVec 32 := BitVec.ofNat 32 (i 2).val
  let v2101 : BitVec 32 := Scalar.subi arg2 c0_i32_1159
  let c1_i32_1160 : BitVec 32 := 1#32
  let v2102 : BitVec 32 := Scalar.addi v2101 c1_i32_1160
  let c0_i32_1161 : BitVec 32 := 0#32
  let v2103 : BitVec 32 := Scalar.maxsi v2102 c0_i32_1161
  let v2104 : Index := Scalar.indexCast v2103
  let c0_1164 : Index := 0#32
  let c0_1165 : Index := 0#32
  ![0, 3, v2104.toNat, 0, 0]
def k0_off65 (i : grid0.Coords) (c0_i32_1220 : BitVec 32) : Fin 5 → Nat :=
  let c0_1223 : Index := 0#32
  let c3_1224 : Index := 3#32
  let arg2 : BitVec 32 := BitVec.ofNat 32 (i 2).val
  let v2180 : BitVec 32 := Scalar.subi arg2 c0_i32_1220
  let c1_i32_1221 : BitVec 32 := 1#32
  let v2181 : BitVec 32 := Scalar.addi v2180 c1_i32_1221
  let c0_i32_1222 : BitVec 32 := 0#32
  let v2182 : BitVec 32 := Scalar.maxsi v2181 c0_i32_1222
  let v2183 : Index := Scalar.indexCast v2182
  let c64_1225 : Index := 64#32
  let c0_1226 : Index := 0#32
  ![0, 3, v2183.toNat, 64, 0]
def k0_off66 (i : grid0.Coords) (c0_i32_788 : BitVec 32) : Fin 5 → Nat :=
  let c0_791 : Index := 0#32
  let c0_792 : Index := 0#32
  let arg2 : BitVec 32 := BitVec.ofNat 32 (i 2).val
  let v1622 : BitVec 32 := Scalar.subi arg2 c0_i32_788
  let c1_i32_789 : BitVec 32 := 1#32
  let v1623 : BitVec 32 := Scalar.addi v1622 c1_i32_789
  let c0_i32_790 : BitVec 32 := 0#32
  let v1624 : BitVec 32 := Scalar.maxsi v1623 c0_i32_790
  let v1625 : Index := Scalar.indexCast v1624
  let c0_793 : Index := 0#32
  let c0_794 : Index := 0#32
  ![0, 0, v1625.toNat, 0, 0]
def k0_off67 (i : grid0.Coords) (c0_i32_819 : BitVec 32) : Fin 5 → Nat :=
  let c0_822 : Index := 0#32
  let c0_823 : Index := 0#32
  let arg2 : BitVec 32 := BitVec.ofNat 32 (i 2).val
  let v1663 : BitVec 32 := Scalar.subi arg2 c0_i32_819
  let c1_i32_820 : BitVec 32 := 1#32
  let v1664 : BitVec 32 := Scalar.addi v1663 c1_i32_820
  let c0_i32_821 : BitVec 32 := 0#32
  let v1665 : BitVec 32 := Scalar.maxsi v1664 c0_i32_821
  let v1666 : Index := Scalar.indexCast v1665
  let c64_824 : Index := 64#32
  let c0_825 : Index := 0#32
  ![0, 0, v1666.toNat, 64, 0]
def k0_off68 (i : grid0.Coords) (c0_i32_850 : BitVec 32) : Fin 5 → Nat :=
  let c0_853 : Index := 0#32
  let c1_854 : Index := 1#32
  let arg2 : BitVec 32 := BitVec.ofNat 32 (i 2).val
  let v1704 : BitVec 32 := Scalar.subi arg2 c0_i32_850
  let c1_i32_851 : BitVec 32 := 1#32
  let v1705 : BitVec 32 := Scalar.addi v1704 c1_i32_851
  let c0_i32_852 : BitVec 32 := 0#32
  let v1706 : BitVec 32 := Scalar.maxsi v1705 c0_i32_852
  let v1707 : Index := Scalar.indexCast v1706
  let c0_855 : Index := 0#32
  let c0_856 : Index := 0#32
  ![0, 1, v1707.toNat, 0, 0]
def k0_off69 (i : grid0.Coords) (c0_i32_881 : BitVec 32) : Fin 5 → Nat :=
  let c0_884 : Index := 0#32
  let c1_885 : Index := 1#32
  let arg2 : BitVec 32 := BitVec.ofNat 32 (i 2).val
  let v1745 : BitVec 32 := Scalar.subi arg2 c0_i32_881
  let c1_i32_882 : BitVec 32 := 1#32
  let v1746 : BitVec 32 := Scalar.addi v1745 c1_i32_882
  let c0_i32_883 : BitVec 32 := 0#32
  let v1747 : BitVec 32 := Scalar.maxsi v1746 c0_i32_883
  let v1748 : Index := Scalar.indexCast v1747
  let c64_886 : Index := 64#32
  let c0_887 : Index := 0#32
  ![0, 1, v1748.toNat, 64, 0]
def k0_off70 (i : grid0.Coords) (c0_i32_915 : BitVec 32) : Fin 5 → Nat :=
  let c0_918 : Index := 0#32
  let c2_919 : Index := 2#32
  let arg2 : BitVec 32 := BitVec.ofNat 32 (i 2).val
  let v1788 : BitVec 32 := Scalar.subi arg2 c0_i32_915
  let c1_i32_916 : BitVec 32 := 1#32
  let v1789 : BitVec 32 := Scalar.addi v1788 c1_i32_916
  let c0_i32_917 : BitVec 32 := 0#32
  let v1790 : BitVec 32 := Scalar.maxsi v1789 c0_i32_917
  let v1791 : Index := Scalar.indexCast v1790
  let c0_920 : Index := 0#32
  let c0_921 : Index := 0#32
  ![0, 2, v1791.toNat, 0, 0]
def k0_off71 (i : grid0.Coords) (c0_i32_946 : BitVec 32) : Fin 5 → Nat :=
  let c0_949 : Index := 0#32
  let c2_950 : Index := 2#32
  let arg2 : BitVec 32 := BitVec.ofNat 32 (i 2).val
  let v1829 : BitVec 32 := Scalar.subi arg2 c0_i32_946
  let c1_i32_947 : BitVec 32 := 1#32
  let v1830 : BitVec 32 := Scalar.addi v1829 c1_i32_947
  let c0_i32_948 : BitVec 32 := 0#32
  let v1831 : BitVec 32 := Scalar.maxsi v1830 c0_i32_948
  let v1832 : Index := Scalar.indexCast v1831
  let c64_951 : Index := 64#32
  let c0_952 : Index := 0#32
  ![0, 2, v1832.toNat, 64, 0]
def k0_off72 (i : grid0.Coords) (c0_i32_977 : BitVec 32) : Fin 5 → Nat :=
  let c0_980 : Index := 0#32
  let c3_981 : Index := 3#32
  let arg2 : BitVec 32 := BitVec.ofNat 32 (i 2).val
  let v1870 : BitVec 32 := Scalar.subi arg2 c0_i32_977
  let c1_i32_978 : BitVec 32 := 1#32
  let v1871 : BitVec 32 := Scalar.addi v1870 c1_i32_978
  let c0_i32_979 : BitVec 32 := 0#32
  let v1872 : BitVec 32 := Scalar.maxsi v1871 c0_i32_979
  let v1873 : Index := Scalar.indexCast v1872
  let c0_982 : Index := 0#32
  let c0_983 : Index := 0#32
  ![0, 3, v1873.toNat, 0, 0]
def k0_off73 (i : grid0.Coords) (c0_i32_1008 : BitVec 32) : Fin 5 → Nat :=
  let c0_1011 : Index := 0#32
  let c3_1012 : Index := 3#32
  let arg2 : BitVec 32 := BitVec.ofNat 32 (i 2).val
  let v1911 : BitVec 32 := Scalar.subi arg2 c0_i32_1008
  let c1_i32_1009 : BitVec 32 := 1#32
  let v1912 : BitVec 32 := Scalar.addi v1911 c1_i32_1009
  let c0_i32_1010 : BitVec 32 := 0#32
  let v1913 : BitVec 32 := Scalar.maxsi v1912 c0_i32_1010
  let v1914 : Index := Scalar.indexCast v1913
  let c64_1013 : Index := 64#32
  let c0_1014 : Index := 0#32
  ![0, 3, v1914.toNat, 64, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c0_i32_5 : BitVec 32 := 0#32
  ![arg1.toNat, c0_i32_4.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c0_i32_4 : BitVec 32 := 0#32
  let c0_i32_5 : BitVec 32 := 0#32
  ![arg1.toNat, c0_i32_4.toNat, v17.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg1.toNat, c0_i32_4.toNat, v16.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c0_i32_5 : BitVec 32 := 0#32
  let c0_i32_6 : BitVec 32 := 0#32
  ![arg1.toNat, c0_i32_5.toNat, v17.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg1.toNat, c0_i32_4.toNat, v16.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg1.toNat, c0_i32_4.toNat, v16.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x4x17x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x4x7x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Ffn.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1024x2816 : Shape := ⟨2, ![1024, 2816]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Merge.lean ====
abbrev S32768x1024 : Shape := ⟨2, ![32768, 1024]⟩
abbrev S16x2048x2048 : Shape := ⟨3, ![16, 2048, 2048]⟩
abbrev S16x2048x1024 : Shape := ⟨3, ![16, 2048, 1024]⟩
abbrev S32768x2048 : Shape := ⟨2, ![32768, 2048]⟩
abbrev S2048x1024 : Shape := ⟨2, ![2048, 1024]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 13
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S16x2048x2048, .bf16⟩
  | .hbm, ⟨2, _⟩ => ⟨S16x2048x1024, .bf16⟩
  | .hbm, ⟨3, _⟩ => ⟨S32768x2048, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S32768x2048, .bf16⟩
  | .hbm, ⟨8, _⟩ => ⟨S32768x1024, .bf16⟩
  | .hbm, ⟨9, _⟩ => ⟨S2048x1024, .bf16⟩
  | .hbm, ⟨10, _⟩ => ⟨S1024x1024, .bf16⟩
  | .hbm, ⟨11, _⟩ => ⟨S1024x1024, .bf16⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S32768x1024 : Shape := ⟨2, ![32768, 1024]⟩
abbrev S16x2048x2048 : Shape := ⟨3, ![16, 2048, 2048]⟩
abbrev S16x2048x1024 : Shape := ⟨3, ![16, 2048, 1024]⟩
abbrev S32768x2048 : Shape := ⟨2, ![32768, 2048]⟩
abbrev S2048x1024 : Shape := ⟨2, ![2048, 1024]⟩
abbrev S1024x1024 : Shape := ⟨2, ![1024, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x2048x2048, .bf16⟩
  | .hbm, ⟨2, _⟩ => ⟨S16x2048x1024, .bf16⟩
  | .hbm, ⟨3, _⟩ => ⟨S32768x2048, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S32768x2048, .bf16⟩
  | .hbm, ⟨8, _⟩ => ⟨S32768x2048, .f32⟩
  | .hbm, ⟨9, _⟩ => ⟨S32768x1024, .f32⟩
  | .hbm, ⟨10, _⟩ => ⟨S32768x1024, .bf16⟩
  | .hbm, ⟨11, _⟩ => ⟨S32768x1024, .f32⟩
  | .hbm, ⟨12, _⟩ => ⟨S32768x1024, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== InProj.lean ====
abbrev S16x2048x1024 : Shape := ⟨3, ![16, 2048, 1024]⟩
abbrev S1024 : Shape := ⟨1, ![1024]⟩
abbrev S1024x9808 : Shape := ⟨2, ![1024, 9808]⟩
abbrev S4x64 : Shape := ⟨2, ![4, 64]⟩
abbrev S32768x1024 : Shape := ⟨2, ![32768, 1024]⟩
abbrev S1024x2048 : Shape := ⟨2, ![1024, 2048]⟩
abbrev S1024x3072 : Shape := ⟨2, ![1024, 3072]⟩
abbrev S1024x32 : Shape := ⟨2, ![1024, 32]⟩
abbrev S1024x1024 : Shape := ⟨2, ![1024, 1024]⟩
abbrev S1024x1536 : Shape := ⟨2, ![1024, 1536]⟩
abbrev S1024x48 : Shape := ⟨2, ![1024, 48]⟩
abbrev S_ : Shape := ⟨0, ![]⟩
abbrev S1024x9856 : Shape := ⟨2, ![1024, 9856]⟩
abbrev S4x128 : Shape := ⟨2, ![4, 128]⟩
abbrev S1x1024 : Shape := ⟨2, ![1, 1024]⟩
abbrev S32768x2048 : Shape := ⟨2, ![32768, 2048]⟩
abbrev S32768x3072 : Shape := ⟨2, ![32768, 3072]⟩
abbrev S32768x512 : Shape := ⟨2, ![32768, 512]⟩
abbrev S32768x128 : Shape := ⟨2, ![32768, 128]⟩
abbrev S256x1024 : Shape := ⟨2, ![256, 1024]⟩
abbrev S256x2048 : Shape := ⟨2, ![256, 2048]⟩
abbrev S256x3072 : Shape := ⟨2, ![256, 3072]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S256x1536 : Shape := ⟨2, ![256, 1536]⟩
abbrev S256x256 : Shape := ⟨2, ![256, 256]⟩
abbrev S1024x128 : Shape := ⟨2, ![1024, 128]⟩

abbrev nBuf : Space → Nat
  | .hbm => 25
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x9808, .f32⟩
  | .hbm, ⟨3, _⟩ => ⟨S4x64, .f32⟩
  | .hbm, ⟨4, _⟩ => ⟨S32768x1024, .f32⟩
  | .hbm, ⟨5, _⟩ => ⟨S1024x2048, .f32⟩
  | .hbm, ⟨6, _⟩ => ⟨S1024x3072, .f32⟩
  | .hbm, ⟨7, _⟩ => ⟨S1024x32, .f32⟩
  | .hbm, ⟨8, _⟩ => ⟨S1024x1024, .f32⟩
  | .hbm, ⟨9, _⟩ => ⟨S1024x1536, .f32⟩
  | .hbm, ⟨10, _⟩ => ⟨S1024x48, .f32⟩
  | .hbm, ⟨11, _⟩ => ⟨S1024x2048, .f32⟩
  | .hbm, ⟨12, _⟩ => ⟨S_, .f32⟩
  | .hbm, ⟨13, _⟩ => ⟨S1024x48, .f32⟩
  | .hbm, ⟨14, _⟩ => ⟨S1024x9856, .f32⟩
  | .hbm, ⟨15, _⟩ => ⟨S1024x9856, .bf16⟩
  | .hbm, ⟨16, _⟩ => ⟨S4x128, .f32⟩
  | .hbm, ⟨17, _⟩ => ⟨S1x1024, .f32⟩
  | .hbm, ⟨18, _⟩ => ⟨S32768x2048, .f32⟩
  | .hbm, ⟨19, _⟩ => ⟨S32768x3072, .f32⟩
  | .hbm, ⟨20, _⟩ => ⟨S32768x1024, .f32⟩
  | .hbm, ⟨21, _⟩ => ⟨S32768x1024, .f32⟩
  | .hbm, ⟨22, _⟩ => ⟨S32768x512, .f32⟩
  | .hbm, ⟨23, _⟩ => ⟨S32768x2048, .f32⟩
  | .hbm, ⟨24, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x9856, .bf16⟩
  | .local _ .vmem, ⟨4, _⟩ => ⟨S4x128, .f32⟩
  | .local _ .vmem, ⟨5, _⟩ => ⟨S256x2048, .f32⟩
  | .local _ .vmem, ⟨6, _⟩ => ⟨S256x2048, .f32⟩
  | .local _ .vmem, ⟨7, _⟩ => ⟨S256x3072, .f32⟩
  | .local _ .vmem, ⟨8, _⟩ => ⟨S256x3072, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x512, .f32⟩
  | .local _ .vmem, ⟨14, _⟩ => ⟨S256x512, .f32⟩
  | .local _ .vmem, ⟨15, _⟩ => ⟨S256x2048, .f32⟩
  | .local _ .vmem, ⟨16, _⟩ => ⟨S256x2048, .f32⟩
  | .local _ .vmem, ⟨17, _⟩ => ⟨S256x128, .f32⟩
  | .local _ .vmem, ⟨18, _⟩ => ⟨S256x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev main_v13_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x9856 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjRefIdeal.lean ====
abbrev S16x2048x1024 : Shape := ⟨3, ![16, 2048, 1024]⟩
abbrev S1024 : Shape := ⟨1, ![1024]⟩
abbrev S1024x9808 : Shape := ⟨2, ![1024, 9808]⟩
abbrev S4x64 : Shape := ⟨2, ![4, 64]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x9808 : Shape := ⟨2, ![32768, 9808]⟩
abbrev S32768x2048 : Shape := ⟨2, ![32768, 2048]⟩
abbrev S32768x3072 : Shape := ⟨2, ![32768, 3072]⟩
abbrev S32768x32 : Shape := ⟨2, ![32768, 32]⟩
abbrev S32768x1536 : Shape := ⟨2, ![32768, 1536]⟩
abbrev S32768x48 : Shape := ⟨2, ![32768, 48]⟩
abbrev S32768x16x64 : Shape := ⟨3, ![32768, 16, 64]⟩
abbrev S1x64 : Shape := ⟨2, ![1, 64]⟩
abbrev S64 : Shape := ⟨1, ![64]⟩
abbrev S32768x16 : Shape := ⟨2, ![32768, 16]⟩
abbrev S32768x16x1 : Shape := ⟨3, ![32768, 16, 1]⟩
abbrev S1x1x64 : Shape := ⟨3, ![1, 1, 64]⟩
abbrev S32768x6x4x64 : Shape := ⟨4, ![32768, 6, 4, 64]⟩
abbrev S32768x1x4x64 : Shape := ⟨4, ![32768, 1, 4, 64]⟩
abbrev S32768x4x64 : Shape := ⟨3, ![32768, 4, 64]⟩
abbrev S32768x4 : Shape := ⟨2, ![32768, 4]⟩
abbrev S32768x4x1 : Shape := ⟨3, ![32768, 4, 1]⟩
abbrev S32768x4x4x64 : Shape := ⟨4, ![32768, 4, 4, 64]⟩
abbrev S32768x2x4x64 : Shape := ⟨4, ![32768, 2, 4, 64]⟩
abbrev S32768x128 : Shape := ⟨2, ![32768, 128]⟩
abbrev S32768x512 : Shape := ⟨2, ![32768, 512]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x9808, .f32⟩
  | .hbm, ⟨3, _⟩ => ⟨S4x64, .f32⟩
  | .hbm, ⟨4, _⟩ => ⟨S32768x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x9808, .f32⟩
  | .hbm, ⟨22, _⟩ => ⟨S32768x2048, .f32⟩
  | .hbm, ⟨23, _⟩ => ⟨S32768x3072, .f32⟩
  | .hbm, ⟨24, _⟩ => ⟨S32768x32, .f32⟩
  | .hbm, ⟨25, _⟩ => ⟨S32768x1024, .f32⟩
  | .hbm, ⟨26, _⟩ => ⟨S32768x1536, .f32⟩
  | .hbm, ⟨27, _⟩ => ⟨S32768x48, .f32⟩
  | .hbm, ⟨28, _⟩ => ⟨S32768x2048, .f32⟩
  | .hbm, ⟨29, _⟩ => ⟨S32768x16x64, .f32⟩
  | .hbm, ⟨30, _⟩ => ⟨S1x64, .f32⟩
  | .hbm, ⟨31, _⟩ => ⟨S64, .f32⟩
  | .hbm, ⟨32, _⟩ => ⟨S32768x16x64, .f32⟩
  | .hbm, ⟨33, _⟩ => ⟨S_, .f32⟩
  | .hbm, ⟨34, _⟩ => ⟨S32768x16, .f32⟩
  | .hbm, ⟨35, _⟩ => ⟨S32768x16x1, .f32⟩
  | .hbm, ⟨36, _⟩ => ⟨S_, .f32⟩
  | .hbm, ⟨37, _⟩ => ⟨S32768x16x1, .f32⟩
  | .hbm, ⟨38, _⟩ => ⟨S32768x16x1, .f32⟩
  | .hbm, ⟨39, _⟩ => ⟨S_, .f32⟩
  | .hbm, ⟨40, _⟩ => ⟨S32768x16x1, .f32⟩
  | .hbm, ⟨41, _⟩ => ⟨S32768x16x1, .f32⟩
  | .hbm, ⟨42, _⟩ => ⟨S32768x16x1, .f32⟩
  | .hbm, ⟨43, _⟩ => ⟨S32768x16x64, .f32⟩
  | .hbm, ⟨44, _⟩ => ⟨S32768x16x64, .f32⟩
  | .hbm, ⟨45, _⟩ => ⟨S1x1x64, .f32⟩
  | .hbm, ⟨46, _⟩ => ⟨S32768x16x64, .f32⟩
  | .hbm, ⟨47, _⟩ => ⟨S32768x16x64, .f32⟩
  | .hbm, ⟨48, _⟩ => ⟨S_, .f32⟩
  | .hbm, ⟨49, _⟩ => ⟨S32768x16x64, .f32⟩
  | .hbm, ⟨50, _⟩ => ⟨S32768x16x64, .f32⟩
  | .hbm, ⟨51, _⟩ => ⟨S32768x6x4x64, .f32⟩
  | .hbm, ⟨52, _⟩ => ⟨S32768x1x4x64, .f32⟩
  | .hbm, ⟨53, _⟩ => ⟨S32768x4x64, .f32⟩
  | .hbm, ⟨54, _⟩ => ⟨S32768x1x4x64, .f32⟩
  | .hbm, ⟨55, _⟩ => ⟨S32768x4x64, .f32⟩
  | .hbm, ⟨56, _⟩ => ⟨S32768x1x4x64, .f32⟩
  | .hbm, ⟨57, _⟩ => ⟨S32768x4x64, .f32⟩
  | .hbm, ⟨58, _⟩ => ⟨S1x64, .f32⟩
  | .hbm, ⟨59, _⟩ => ⟨S64, .f32⟩
  | .hbm, ⟨60, _⟩ => ⟨S32768x4x64, .f32⟩
  | .hbm, ⟨61, _⟩ => ⟨S_, .f32⟩
  | .hbm, ⟨62, _⟩ => ⟨S32768x4, .f32⟩
  | .hbm, ⟨63, _⟩ => ⟨S32768x4x1, .f32⟩
  | .hbm, ⟨64, _⟩ => ⟨S_, .f32⟩
  | .hbm, ⟨65, _⟩ => ⟨S32768x4x1, .f32⟩
  | .hbm, ⟨66, _⟩ => ⟨S32768x4x1, .f32⟩
  | .hbm, ⟨67, _⟩ => ⟨S_, .f32⟩
  | .hbm, ⟨68, _⟩ => ⟨S32768x4x1, .f32⟩
  | .hbm, ⟨69, _⟩ => ⟨S32768x4x1, .f32⟩
  | .hbm, ⟨70, _⟩ => ⟨S32768x4x1, .f32⟩
  | .hbm, ⟨71, _⟩ => ⟨S32768x4x64, .f32⟩
  | .hbm, ⟨72, _⟩ => ⟨S32768x4x64, .f32⟩
  | .hbm, ⟨73, _⟩ => ⟨S1x1x64, .f32⟩
  | .hbm, ⟨74, _⟩ => ⟨S32768x4x64, .f32⟩
  | .hbm, ⟨75, _⟩ => ⟨S32768x4x64, .f32⟩
  | .hbm, ⟨76, _⟩ => ⟨S32768x1x4x64, .f32⟩
  | .hbm, ⟨77, _⟩ => ⟨S32768x4x64, .f32⟩
  | .hbm, ⟨78, _⟩ => ⟨S32768x1x4x64, .f32⟩
  | .hbm, ⟨79, _⟩ => ⟨S32768x1x4x64, .f32⟩
  | .hbm, ⟨80, _⟩ => ⟨S32768x1x4x64, .f32⟩
  | .hbm, ⟨81, _⟩ => ⟨S32768x1x4x64, .f32⟩
  | .hbm, ⟨82, _⟩ => ⟨S32768x4x4x64, .f32⟩
  | .hbm, ⟨83, _⟩ => ⟨S32768x1x4x64, .f32⟩
  | .hbm, ⟨84, _⟩ => ⟨S32768x4x64, .f32⟩
  | .hbm, ⟨85, _⟩ => ⟨S1x64, .f32⟩
  | .hbm, ⟨86, _⟩ => ⟨S64, .f32⟩
  | .hbm, ⟨87, _⟩ => ⟨S32768x4x64, .f32⟩
  | .hbm, ⟨88, _⟩ => ⟨S_, .f32⟩
  | .hbm, ⟨89, _⟩ => ⟨S32768x4, .f32⟩
  | .hbm, ⟨90, _⟩ => ⟨S32768x4x1, .f32⟩
  | .hbm, ⟨91, _⟩ => ⟨S_, .f32⟩
  | .hbm, ⟨92, _⟩ => ⟨S32768x4x1, .f32⟩
  | .hbm, ⟨93, _⟩ => ⟨S32768x4x1, .f32⟩
  | .hbm, ⟨94, _⟩ => ⟨S_, .f32⟩
  | .hbm, ⟨95, _⟩ => ⟨S32768x4x1, .f32⟩
  | .hbm, ⟨96, _⟩ => ⟨S32768x4x1, .f32⟩
  | .hbm, ⟨97, _⟩ => ⟨S32768x4x1, .f32⟩
  | .hbm, ⟨98, _⟩ => ⟨S32768x4x64, .f32⟩
  | .hbm, ⟨99, _⟩ => ⟨S32768x4x64, .f32⟩
  | .hbm, ⟨100, _⟩ => ⟨S1x1x64, .f32⟩
  | .hbm, ⟨101, _⟩ => ⟨S32768x4x64, .f32⟩
  | .hbm, ⟨102, _⟩ => ⟨S32768x4x64, .f32⟩
  | .hbm, ⟨103, _⟩ => ⟨S32768x1x4x64, .f32⟩
  | .hbm, ⟨104, _⟩ => ⟨S32768x4x64, .f32⟩
  | .hbm, ⟨105, _⟩ => ⟨S32768x1x4x64, .f32⟩
  | .hbm, ⟨106, _⟩ => ⟨S32768x1x4x64, .f32⟩
  | .hbm, ⟨107, _⟩ => ⟨S32768x2x4x64, .f32⟩
  | .hbm, ⟨108, _⟩ => ⟨S_, .f32⟩
  | .hbm, ⟨109, _⟩ => ⟨S32768x48, .f32⟩
  | .hbm, ⟨110, _⟩ => ⟨S32768x128, .f32⟩
  | .hbm, ⟨111, _⟩ => ⟨S32768x1024, .f32⟩
  | .hbm, ⟨112, _⟩ => ⟨S32768x1024, .f32⟩
  | .hbm, ⟨113, _⟩ => ⟨S32768x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_9 : Ref sig .tc := ⟨.hbm, 88, rfl⟩
abbrev main_v74 : Ref sig .tc := ⟨.hbm, 89, rfl⟩
abbrev main_v75 : Ref sig .tc := ⟨.hbm, 90, rfl⟩
abbrev main_cst_10 : Ref sig .tc := ⟨.hbm, 91, rfl⟩
abbrev main_v76 : Ref sig .tc := ⟨.hbm, 92, rfl⟩
abbrev main_v77 : Ref sig .tc := ⟨.hbm, 93, rfl⟩
abbrev main_cst_11 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_12 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩

abbrev nD : Nat := 1
abbrev τ : Topo := Topo.v7x

variable {F : FTy → Type} [FloatOps F]
-- ==== Proof.Run.Straight.lean ====
/- Straight-line runs. A kernel body that only loads from and stores to memrefs it holds whole, branching on values, is
   run here on a plain state: `Ev` says that from a state the program ends in a result and a state of which `Q` holds.
   A memref is tied to the state by a `Slot`, which reads and replaces its contents there. -/
module

public import Idealize.ShloMosaic.Lib.Pipeline.Frame
public import Idealize.ShloMosaic.Lib.Pipeline.FrameBody
public import Idealize.ShloMosaic.Lib.LaneScatter.Own
public import Idealize.ShloMosaic.Lib.Tactic

@[expose] public section

noncomputable section

namespace Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {St : Type}
variable {U : Type} [URA U]

local notation "𝕄" => MT nD τ sig Unit Val ℕ U ℕ

/-- The contents `X` with `w` put over the rectangle `r`. -/
def put {s : Shape} {α : Type} (X : s.Idx → α) (r : Rect s) (w : r.shape.Idx → α) : s.Idx → α :=
  fun y => match preimage? r.emb y with
    | some x => w x
    | none => X y

theorem put_emb {s : Shape} {α : Type} (X : s.Idx → α) (r : Rect s) (w : r.shape.Idx → α) (x : r.shape.Idx) :
    put X r w (r.emb x) = w x := by
  unfold put; rw [preimage?_emb]

theorem put_of_ne {s : Shape} {α : Type} (X : s.Idx → α) (r : Rect s) (w : r.shape.Idx → α) {y : s.Idx}
    (h : ∀ x, r.emb x ≠ y) : put X r w y = X y := by
  unfold put; rw [preimage?_eq_none h]

/-- Reading through a view after a store through one of its rectangles. -/
theorem read_write_put {κ : Kind} {sp : Space} {s : Shape} {e : EltTy} (v : View sig κ sp s e) (r : Rect s)
    (f : v.ty.Contents Val) (w : r.shape.Idx → Val e) :
    v.read Val ((v.slice r).write Val f w Finset.univ) = put (v.read Val f) r w := by
  funext y
  by_cases h : ∃ x, r.emb x = y
  · obtain ⟨x, rfl⟩ := h
    rw [View.read_slice_write_emb r f w (Finset.mem_univ x), put_emb]
  · have h' : ∀ x, r.emb x ≠ y := fun x hx => h ⟨x, hx⟩
    rw [View.read_slice_write_of_not_mem r f w Finset.univ (fun hm => by
      obtain ⟨x, _, hx⟩ := Finset.mem_map.mp hm
      exact h' x hx), put_of_ne _ _ _ h']

/-- How a memref's contents are read off the state that `own` describes. -/
class Reads (own : St → sProp 𝕄) (c : Thread nD τ) {sp : Space} {s : Shape} {e : EltTy} (m : Memref sig c.2.kind sp s e) where
  get : St → s.Idx → Val e
  rlaw : ∀ σ, own σ ⊢ iprop(owns c m fullShare (get σ) ∗ (owns c m fullShare (get σ) -∗ own σ))

/-- How a memref's contents sit in the state that `own` describes, to be read and replaced. -/
class Slot (own : St → sProp 𝕄) (c : Thread nD τ) {sp : Space} {s : Shape} {e : EltTy} (m : Memref sig c.2.kind sp s e)
    extends Reads own c m where
  set : St → (s.Idx → Val e) → St
  wlaw : ∀ σ, own σ ⊢ iprop(owns c m fullShare (get σ) ∗ ∀ X, owns c m fullShare X -∗ own (set σ X))

/-- A memref held at contents `X` that no run changes, beside what `own` holds. -/
def fixed (c : Thread nD τ) {sp : Space} {s : Shape} {e : EltTy} (m : Memref sig c.2.kind sp s e) (X : s.Idx → Val e)
    (own : St → sProp 𝕄) : St → sProp 𝕄 := fun σ => iprop(owns c m fullShare X ∗ own σ)

/-- A memref whose contents are the first part of the state, beside what `own` holds at the second. -/
def held (c : Thread nD τ) {sp : Space} {s : Shape} {e : EltTy} (m : Memref sig c.2.kind sp s e)
    (own : St → sProp 𝕄) : (s.Idx → Val e) × St → sProp 𝕄 := fun σ => iprop(owns c m fullShare σ.1 ∗ own σ.2)

/-- A memref whose contents are the whole state. -/
def last (c : Thread nD τ) {sp : Space} {s : Shape} {e : EltTy} (m : Memref sig c.2.kind sp s e) :
    (s.Idx → Val e) → sProp 𝕄 := fun σ => owns c m fullShare σ

section slots

variable (c : Thread nD τ) {sp sp' : Space} {s s' : Shape} {e e' : EltTy} (m : Memref sig c.2.kind sp s e)
  (m' : Memref sig c.2.kind sp' s' e') (X : s.Idx → Val e) (X' : s'.Idx → Val e') (own : St → sProp (MT nD τ sig Unit Val ℕ U ℕ))

instance readsFixed : Reads (fixed c m X own) c m where
  get _ := X
  rlaw σ := by
    unfold fixed
    iintro ⟨H, Ho⟩
    isplitl [H]
    · iexact H
    iintro H
    isplitl [H]
    · iexact H
    iexact Ho

instance readsPast [R : Reads own c m] : Reads (fixed c m' X' own) c m where
  get σ := R.get σ
  rlaw σ := by
    unfold fixed
    refine (sep_mono_right (R.rlaw σ)).trans ?_
    iintro ⟨H', H, Ho⟩
    isplitl [H]
    · iexact H
    iintro H
    isplitl [H']
    · iexact H'
    iapply Ho
    iexact H

instance slotHeld : Slot (held c m own) c m where
  get σ := σ.1
  set σ Y := (Y, σ.2)
  rlaw σ := by
    unfold held
    iintro ⟨H, Ho⟩
    isplitl [H]
    · iexact H
    iintro H
    isplitl [H]
    · iexact H
    iexact Ho
  wlaw σ := by
    unfold held
    iintro ⟨H, Ho⟩
    isplitl [H]
    · iexact H
    iintro %Y H
    isplitl [H]
    · iexact H
    iexact Ho

instance slotLast : Slot (Val := Val) (U := U) (last c m) c m where
  get σ := σ
  set _ Y := Y
  rlaw σ := by
    unfold last
    iintro H
    isplitl [H]
    · iexact H
    iintro H
    iexact H
  wlaw σ := by
    unfold last
    iintro H
    isplitl [H]
    · iexact H
    iintro %Y H
    iexact H

instance slotPastHeld [R : Slot own c m] : Slot (held c m' own) c m where
  get σ := R.get σ.2
  set σ Y := (σ.1, R.set σ.2 Y)
  rlaw σ := by
    unfold held
    refine (sep_mono_right (R.rlaw σ.2)).trans ?_
    iintro ⟨H', H, Ho⟩
    isplitl [H]
    · iexact H
    iintro H
    isplitl [H']
    · iexact H'
    iapply Ho
    iexact H
  wlaw σ := by
    unfold held
    refine (sep_mono_right (R.wlaw σ.2)).trans ?_
    iintro ⟨H', H, Ho⟩
    isplitl [H]
    · iexact H
    iintro %Y H
    isplitl [H']
    · iexact H'
    iapply Ho
    iexact H

instance slotPastFixed [R : Slot own c m] : Slot (fixed c m' X' own) c m where
  get σ := R.get σ
  set σ Y := R.set σ Y
  rlaw σ := (readsPast c m m' X' own).rlaw σ
  wlaw σ := by
    unfold fixed
    refine (sep_mono_right (R.wlaw σ)).trans ?_
    iintro ⟨H', H, Ho⟩
    isplitl [H]
    · iexact H
    iintro %Y H
    isplitl [H']
    · iexact H'
    iapply Ho
    iexact H

end slots

/-- From the state `σ` the program `p` ends in a result and a state of which `Q` holds. -/
structure Ev (defs : Defs nD τ sig Val Λ) (𝒱 : Variants) (c : Thread nD τ) (own : St → sProp 𝕄) {α : Type}
    (p : Prog (TpuEff nD τ sig Val Λ c.2) α) (σ : St) (Q : α → St → Prop) : Prop where
  sound : own σ ⊢ wp frame (wpE defs 𝒱 c none) Set.univ p fun a => iprop(∃ σ', ⌜Q a σ'⌝ ∗ own σ')

namespace Ev

variable {defs : Defs nD τ sig Val Λ} {𝒱 : Variants} {c : Thread nD τ} {own : St → sProp (MT nD τ sig Unit Val ℕ U ℕ)} {α β : Type} {σ : St}

theorem ret {a : α} {Q : α → St → Prop} (h : Q a σ) : Ev defs 𝒱 c own (.ret a) σ Q :=
  ⟨by
    rw [wp_ret]
    iintro H
    imodintro
    iexists σ
    isplitr
    · ipureintro; exact h
    iexact H⟩

theorem pure {a : α} {Q : α → St → Prop} (h : Q a σ) : Ev defs 𝒱 c own (Pure.pure a) σ Q := ret h

theorem mono {p : Prog (TpuEff nD τ sig Val Λ c.2) α} {Q Q' : α → St → Prop} (h : Ev defs 𝒱 c own p σ Q)
    (hQ : ∀ a σ', Q a σ' → Q' a σ') : Ev defs 𝒱 c own p σ Q' :=
  ⟨h.sound.trans (wp_mono _ _ _ fun a => by
    iintro ⟨%σ', %h', H⟩
    iexists σ'
    isplitr
    · ipureintro; exact hQ _ _ h'
    iexact H)⟩

theorem bind {p : Prog (TpuEff nD τ sig Val Λ c.2) α} {k : α → Prog (TpuEff nD τ sig Val Λ c.2) β} {Q : β → St → Prop}
    (R : α → St → Prop) (h : Ev defs 𝒱 c own p σ R) (hk : ∀ a σ', R a σ' → Ev defs 𝒱 c own (k a) σ' Q) :
    Ev defs 𝒱 c own (p >>= k) σ Q :=
  ⟨by
    rw [wp_bind]
    refine h.sound.trans (wp_mono _ _ _ fun a => ?_)
    iintro ⟨%σ', %h', H⟩
    iapply (hk a σ' h').sound
    iexact H⟩

theorem load {sp : CoreSpace} {s : Shape} {e : EltTy} {m : Memref sig c.2.kind sp s e} {r : LoadRect s} {hl : m.view.LoadsAt r}
    {k : (r.shape.Idx → Val e) → Prog (TpuEff nD τ sig Val Λ c.2) α} {Q : α → St → Prop} [L : Reads own c m]
    (h : Ev defs 𝒱 c own (k fun x => L.get σ (r.idx x)) σ Q) : Ev defs 𝒱 c own (.op (.load m r hl) k) σ Q :=
  ⟨by
    refine (L.rlaw σ).trans ?_
    unfold owns
    iintro ⟨⟨%f, %hf, H⟩, Hk⟩
    iapply (wp_load (defs := defs) 𝒱 c none Set.univ (hl := hl) (f := f) (q := fullShare) (S := m.view.set)
      (View.setOn_subset_set _ _)) $$ H
    iintro H
    have he : m.view.readAt Val r f = fun x => L.get σ (r.idx x) := by
      rw [← hf]; rfl
    rw [he]
    iapply h.sound
    iapply Hk
    iexists f
    isplitr
    · ipureintro; exact hf
    iexact H⟩

theorem store {sp : CoreSpace} {s : Shape} {e : EltTy} {m : Memref sig c.2.kind sp s e} {r : Rect s} {w : r.shape.Idx → Val e}
    {hx : (m.access r).Stores Finset.univ} {hm : Finset.univ = Finset.univ ∨ ∀ a, r.stride a = 1}
    {k : PUnit → Prog (TpuEff nD τ sig Val Λ c.2) α} {Q : α → St → Prop} [L : Slot own c m]
    (h : Ev defs 𝒱 c own (k ⟨⟩) (L.set σ (put (L.get σ) r w)) Q) :
    Ev defs 𝒱 c own (.op (.store m r w Finset.univ hx hm) k) σ Q :=
  ⟨by
    refine (L.wlaw σ).trans ?_
    unfold owns
    iintro ⟨⟨%f, %hf, H⟩, Hk⟩
    iapply (wp_store (defs := defs) 𝒱 c none Set.univ (hx := hx) (hm := hm) (f := f) (S := m.view.set)
      (View.set_slice_subset _ _)) $$ H
    iintro H
    iapply h.sound
    iapply Hk
    iexists _
    isplitr
    · ipureintro; exact (read_write_put m.view r f w).trans (by rw [hf])
    iexact H⟩

end Ev

/-- From every state the program ends, keeping what `own` holds. -/
def Fr (defs : Defs nD τ sig Val Λ) (𝒱 : Variants) (c : Thread nD τ) (own : St → sProp 𝕄) {α : Type}
    (p : Prog (TpuEff nD τ sig Val Λ c.2) α) : Prop := ∀ σ, Ev defs 𝒱 c own p σ fun _ _ => True

namespace Fr

variable {defs : Defs nD τ sig Val Λ} {𝒱 : Variants} {c : Thread nD τ} {own : St → sProp (MT nD τ sig Unit Val ℕ U ℕ)} {α β : Type}

theorem pure {a : α} : Fr defs 𝒱 c own (Pure.pure a) := fun _ => .ret trivial

theorem bind {p : Prog (TpuEff nD τ sig Val Λ c.2) α} {k : α → Prog (TpuEff nD τ sig Val Λ c.2) β}
    (h : Fr defs 𝒱 c own p) (hk : ∀ a, Fr defs 𝒱 c own (k a)) : Fr defs 𝒱 c own (p >>= k) :=
  fun σ => .bind _ (h σ) fun a σ' _ => hk a σ'

theorem load {sp : CoreSpace} {s : Shape} {e : EltTy} {m : Memref sig c.2.kind sp s e} {r : LoadRect s} {hl : m.view.LoadsAt r}
    [Reads own c m] : Fr defs 𝒱 c own (Prog.lift (.load m r hl)) := fun _ => .load (.ret trivial)

theorem store {sp : CoreSpace} {s : Shape} {e : EltTy} {m : Memref sig c.2.kind sp s e} {r : Rect s} {w : r.shape.Idx → Val e}
    {hx : (m.access r).Stores Finset.univ} {hm : Finset.univ = Finset.univ ∨ ∀ a, r.stride a = 1} [Slot own c m] :
    Fr defs 𝒱 c own (Prog.lift (.store m r w Finset.univ hx hm)) := fun _ => .store (.ret trivial)

theorem load_bind {sp : CoreSpace} {s : Shape} {e : EltTy} {m : Memref sig c.2.kind sp s e} {r : LoadRect s} {hl : m.view.LoadsAt r}
    [Reads own c m] {k : (r.shape.Idx → Val e) → Prog (TpuEff nD τ sig Val Λ c.2) β} (hk : ∀ a, Fr defs 𝒱 c own (k a)) :
    Fr defs 𝒱 c own (Prog.lift (.load m r hl) >>= k) := bind load hk

theorem store_bind {sp : CoreSpace} {s : Shape} {e : EltTy} {m : Memref sig c.2.kind sp s e} {r : Rect s} {w : r.shape.Idx → Val e}
    {hx : (m.access r).Stores Finset.univ} {hm : Finset.univ = Finset.univ ∨ ∀ a, r.stride a = 1} [Slot own c m]
    {k : PUnit → Prog (TpuEff nD τ sig Val Λ c.2) β} (hk : ∀ a, Fr defs 𝒱 c own (k a)) :
    Fr defs 𝒱 c own (Prog.lift (.store m r w Finset.univ hx hm) >>= k) := bind store hk

theorem pure_bind {a : α} {k : α → Prog (TpuEff nD τ sig Val Λ c.2) β} (hk : Fr defs 𝒱 c own (k a)) :
    Fr defs 𝒱 c own (Pure.pure a >>= k) := hk

theorem sigma {A : Type} {B : A → Type} {f : (a : A) → B a → Prog (TpuEff nD τ sig Val Λ c.2) α} {x : PSigma B}
    (h : ∀ a b, Fr defs 𝒱 c own (f a b)) : Fr defs 𝒱 c own (PSigma.casesOn x f) := by
  cases x; exact h _ _

theorem dite_pos {b : Prop} [Decidable b] {p : b → Prog (TpuEff nD τ sig Val Λ c.2) α} {q : ¬ b → Prog (TpuEff nD τ sig Val Λ c.2) α}
    (h : b) (hp : Fr defs 𝒱 c own (p h)) : Fr defs 𝒱 c own (if h : b then p h else q h) := by rw [dif_pos h]; exact hp

theorem dite_neg {b : Prop} [Decidable b] {p : b → Prog (TpuEff nD τ sig Val Λ c.2) α} {q : ¬ b → Prog (TpuEff nD τ sig Val Λ c.2) α}
    (h : ¬ b) (hq : Fr defs 𝒱 c own (q h)) : Fr defs 𝒱 c own (if h : b then p h else q h) := by rw [dif_neg h]; exact hq

theorem dite {b : Prop} [Decidable b] {p : b → Prog (TpuEff nD τ sig Val Λ c.2) α} {q : ¬ b → Prog (TpuEff nD τ sig Val Λ c.2) α}
    (hp : ∀ h, Fr defs 𝒱 c own (p h)) (hq : ∀ h, Fr defs 𝒱 c own (q h)) : Fr defs 𝒱 c own (if h : b then p h else q h) := by
  by_cases h : b
  · rw [dif_pos h]; exact hp h
  · rw [dif_neg h]; exact hq h

end Fr

end Run
end
-- ==== Proof.Run.State.lean ====
/- The kernel's memrefs and the state of a run: the eleven input windows at fixed contents, the output's block and the
   six scratches as the state. -/
module

public import proofs.«01_k».proof.Kernel.P01
public import proofs.«01_k».proof.Proof.Run.Straight

@[expose] public section

noncomputable section

namespace Run

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable (F : FTy → Type)

/-- The memrefs a body is given, each a whole buffer. -/
structure Refs where
  a3 : Memref sig .tc .vmem S1x128x256 .f32
  a4 : Memref sig .tc .vmem S1x2048x128 .f32
  a5 : Memref sig .tc .vmem S1x2048x128 .f32
  a6 : Memref sig .tc .vmem S1x2048x128 .f32
  a7 : Memref sig .tc .vmem S1x2048x128 .f32
  a8 : Memref sig .tc .vmem S1x64x128 .f32
  a9 : Memref sig .tc .vmem S1x64x128 .f32
  a10 : Memref sig .tc .vmem S1x128x128 .f32
  a11 : Memref sig .tc .vmem S1x4x17x128x128 .f32
  a12 : Memref sig .tc .vmem S1x4x7x128x128 .f32
  a13 : Memref sig .tc .vmem S1x4x64x128 .f32
  a14 : Memref sig .tc .vmem S1x128x256 .bf16
  a15 : Memref sig .tc .vmem S2048x256 .bf16
  a16 : Memref sig .tc .vmem S2048x128 .bf16
  a17 : Memref sig .tc .vmem S2048x128 .bf16
  a18 : Memref sig .tc .vmem S2048x128 .bf16
  a19 : Memref sig .tc .vmem S512x2048 .f32
  a20 : Memref sig .tc .vmem S512x2048 .bf16
  h3 : a3.IsWhole
  h4 : a4.IsWhole
  h5 : a5.IsWhole
  h6 : a6.IsWhole
  h7 : a7.IsWhole
  h8 : a8.IsWhole
  h9 : a9.IsWhole
  h10 : a10.IsWhole
  h11 : a11.IsWhole
  h12 : a12.IsWhole
  h13 : a13.IsWhole
  h14 : a14.IsWhole
  h15 : a15.IsWhole
  h16 : a16.IsWhole
  h17 : a17.IsWhole
  h18 : a18.IsWhole
  h19 : a19.IsWhole
  h20 : a20.IsWhole

/-- The input windows' contents. -/
structure Ins where
  x3 : S1x128x256.Idx → Elt F .f32
  x4 : S1x2048x128.Idx → Elt F .f32
  x5 : S1x2048x128.Idx → Elt F .f32
  x6 : S1x2048x128.Idx → Elt F .f32
  x7 : S1x2048x128.Idx → Elt F .f32
  x8 : S1x64x128.Idx → Elt F .f32
  x9 : S1x64x128.Idx → Elt F .f32
  x10 : S1x128x128.Idx → Elt F .f32
  x11 : S1x4x17x128x128.Idx → Elt F .f32
  x12 : S1x4x7x128x128.Idx → Elt F .f32
  x13 : S1x4x64x128.Idx → Elt F .f32

/-- The contents of the output's block and of the six scratches. -/
abbrev St : Type := (S1x128x256.Idx → Elt F .bf16) × (S2048x256.Idx → Elt F .bf16) × (S2048x128.Idx → Elt F .bf16) ×
  (S2048x128.Idx → Elt F .bf16) × (S2048x128.Idx → Elt F .bf16) × (S512x2048.Idx → Elt F .f32) × (S512x2048.Idx → Elt F .bf16)

/-- What a run holds: the inputs as they are, then the output's block and the scratches in the state. -/
def own (c : Dev nD) (R : Refs) (I : Ins F) : St F → sProp (MT nD τ sig Unit (Elt F) ℕ (UR sig nD τ) ℕ) :=
  fixed (U := UR sig nD τ) (c : Thread nD τ) R.a3 I.x3 <|
  fixed (c : Thread nD τ) R.a4 I.x4 <|
  fixed (c : Thread nD τ) R.a5 I.x5 <|
  fixed (c : Thread nD τ) R.a6 I.x6 <|
  fixed (c : Thread nD τ) R.a7 I.x7 <|
  fixed (c : Thread nD τ) R.a8 I.x8 <|
  fixed (c : Thread nD τ) R.a9 I.x9 <|
  fixed (c : Thread nD τ) R.a10 I.x10 <|
  fixed (c : Thread nD τ) R.a11 I.x11 <|
  fixed (c : Thread nD τ) R.a12 I.x12 <|
  fixed (c : Thread nD τ) R.a13 I.x13 <|
  held (c : Thread nD τ) R.a14 <|
  held (c : Thread nD τ) R.a15 <|
  held (c : Thread nD τ) R.a16 <|
  held (c : Thread nD τ) R.a17 <|
  held (c : Thread nD τ) R.a18 <|
  held (c : Thread nD τ) R.a19 <|
  last (c : Thread nD τ) R.a20

variable {F} (c : Dev nD) (R : Refs) (I : Ins F)

instance r3 : Reads (U := UR sig nD τ) (own F c R I) (c : Thread nD τ) R.a3 := by
  unfold own
  repeat first | exact readsFixed _ _ _ _ | refine @readsPast _ _ _ _ _ _ _ _ _ _ _ _ _ _ _ _ _ _ ?_

instance r4 : Reads (U := UR sig nD τ) (own F c R I) (c : Thread nD τ) R.a4 := by
  unfold own
  repeat first | exact readsFixed _ _ _ _ | refine @readsPast _ _ _ _ _ _ _ _ _ _ _ _ _ _ _ _ _ _ ?_

instance r5 : Reads (U := UR sig nD τ) (own F c R I) (c : Thread nD τ) R.a5 := by
  unfold own
  repeat first | exact readsFixed _ _ _ _ | refine @readsPast _ _ _ _ _ _ _ _ _ _ _ _ _ _ _ _ _ _ ?_

instance r6 : Reads (U := UR sig nD τ) (own F c R I) (c : Thread nD τ) R.a6 := by
  unfold own
  repeat first | exact readsFixed _ _ _ _ | refine @readsPast _ _ _ _ _ _ _ _ _ _ _ _ _ _ _ _ _ _ ?_

instance r7 : Reads (U := UR sig nD τ) (own F c R I) (c : Thread nD τ) R.a7 := by
  unfold own
  repeat first | exact readsFixed _ _ _ _ | refine @readsPast _ _ _ _ _ _ _ _ _ _ _ _ _ _ _ _ _ _ ?_

instance r8 : Reads (U := UR sig nD τ) (own F c R I) (c : Thread nD τ) R.a8 := by
  unfold own
  repeat first | exact readsFixed _ _ _ _ | refine @readsPast _ _ _ _ _ _ _ _ _ _ _ _ _ _ _ _ _ _ ?_

instance r9 : Reads (U := UR sig nD τ) (own F c R I) (c : Thread nD τ) R.a9 := by
  unfold own
  repeat first | exact readsFixed _ _ _ _ | refine @readsPast _ _ _ _ _ _ _ _ _ _ _ _ _ _ _ _ _ _ ?_

instance r10 : Reads (U := UR sig nD τ) (own F c R I) (c : Thread nD τ) R.a10 := by
  unfold own
  repeat first | exact readsFixed _ _ _ _ | refine @readsPast _ _ _ _ _ _ _ _ _ _ _ _ _ _ _ _ _ _ ?_

instance r11 : Reads (U := UR sig nD τ) (own F c R I) (c : Thread nD τ) R.a11 := by
  unfold own
  repeat first | exact readsFixed _ _ _ _ | refine @readsPast _ _ _ _ _ _ _ _ _ _ _ _ _ _ _ _ _ _ ?_

instance r12 : Reads (U := UR sig nD τ) (own F c R I) (c : Thread nD τ) R.a12 := by
  unfold own
  repeat first | exact readsFixed _ _ _ _ | refine @readsPast _ _ _ _ _ _ _ _ _ _ _ _ _ _ _ _ _ _ ?_

instance r13 : Reads (U := UR sig nD τ) (own F c R I) (c : Thread nD τ) R.a13 := by
  unfold own
  repeat first | exact readsFixed _ _ _ _ | refine @readsPast _ _ _ _ _ _ _ _ _ _ _ _ _ _ _ _ _ _ ?_

instance s14 : Slot (U := UR sig nD τ) (own F c R I) (c : Thread nD τ) R.a14 := by
  unfold own
  repeat refine @slotPastFixed _ _ _ _ _ _ _ _ _ _ _ _ _ _ _ _ _ _ ?_
  repeat first | exact slotHeld _ _ _ | refine @slotPastHeld _ _ _ _ _ _ _ _ _ _ _ _ _ _ _ _ _ ?_

instance s15 : Slot (U := UR sig nD τ) (own F c R I) (c : Thread nD τ) R.a15 := by
  unfold own
  repeat refine @slotPastFixed _ _ _ _ _ _ _ _ _ _ _ _ _ _ _ _ _ _ ?_
  repeat first | exact slotHeld _ _ _ | refine @slotPastHeld _ _ _ _ _ _ _ _ _ _ _ _ _ _ _ _ _ ?_

instance s16 : Slot (U := UR sig nD τ) (own F c R I) (c : Thread nD τ) R.a16 := by
  unfold own
  repeat refine @slotPastFixed _ _ _ _ _ _ _ _ _ _ _ _ _ _ _ _ _ _ ?_
  repeat first | exact slotHeld _ _ _ | refine @slotPastHeld _ _ _ _ _ _ _ _ _ _ _ _ _ _ _ _ _ ?_

instance s17 : Slot (U := UR sig nD τ) (own F c R I) (c : Thread nD τ) R.a17 := by
  unfold own
  repeat refine @slotPastFixed _ _ _ _ _ _ _ _ _ _ _ _ _ _ _ _ _ _ ?_
  repeat first | exact slotHeld _ _ _ | refine @slotPastHeld _ _ _ _ _ _ _ _ _ _ _ _ _ _ _ _ _ ?_

instance s18 : Slot (U := UR sig nD τ) (own F c R I) (c : Thread nD τ) R.a18 := by
  unfold own
  repeat refine @slotPastFixed _ _ _ _ _ _ _ _ _ _ _ _ _ _ _ _ _ _ ?_
  repeat first | exact slotHeld _ _ _ | refine @slotPastHeld _ _ _ _ _ _ _ _ _ _ _ _ _ _ _ _ _ ?_

instance s19 : Slot (U := UR sig nD τ) (own F c R I) (c : Thread nD τ) R.a19 := by
  unfold own
  repeat refine @slotPastFixed _ _ _ _ _ _ _ _ _ _ _ _ _ _ _ _ _ _ ?_
  repeat first | exact slotHeld _ _ _ | refine @slotPastHeld _ _ _ _ _ _ _ _ _ _ _ _ _ _ _ _ _ ?_

instance s20 : Slot (U := UR sig nD τ) (own F c R I) (c : Thread nD τ) R.a20 := by
  unfold own
  repeat refine @slotPastFixed _ _ _ _ _ _ _ _ _ _ _ _ _ _ _ _ _ _ ?_
  repeat first | exact slotLast _ _ | refine @slotPastHeld _ _ _ _ _ _ _ _ _ _ _ _ _ _ _ _ _ ?_

end Run
end
-- ==== Proof.Run.Tail.lean ====
/- The end of the body, from the choice of the query tile on: the eight branches of the switch, as one statement that the modules after this one prove branch by branch. -/
module

public import proofs.«01_k».proof.Kernel
public import proofs.«01_k».proof.Proof.Run.State

@[expose] public section

noncomputable section

namespace Run

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable [Facts] {F : FTy → Type} [FloatOps F]
variable (defs : Defs nD τ sig (Elt F) Λ₀) (𝒱 : Variants) (c : Dev nD) (R : Refs) (I : Ins F)

/-- The end of the body, with its switch over the query tiles, runs from every state. -/
def Tail (i : grid0.Coords) (arg0 : BitVec 32) (arg2 : BitVec 32) (v52 : FVec F S512x128 .bf16) (v63 : BitVec 1) (v953 : FVec F S512x128 .f32) (v1508 : IVec S32x128 1) (cst_756 : F .f32) (cst_757 : F .f32) : Prop :=
  Fr (c := (c : Thread nD τ)) defs 𝒱 (own F c R I) (k0_part400 i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 arg0 arg2 v52 v63 v953 v1508 cst_756 cst_757)

end Run
end
-- ==== Proof.Run.TailA.lean ====
/- The end of the body on the first four branches of its switch. -/
module

public import proofs.«01_k».proof.Kernel
public import proofs.«01_k».proof.Proof.Run.Tail

@[expose] public section

noncomputable section

namespace Run

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable [Facts] {F : FTy → Type} [FloatOps F]
variable (defs : Defs nD τ sig (Elt F) Λ₀) (𝒱 : Variants) (c : Dev nD) (R : Refs) (I : Ins F)

set_option maxHeartbeats 0 in
theorem tailA (i : grid0.Coords) (arg0 : BitVec 32) (arg2 : BitVec 32) (v52 : FVec F S512x128 .bf16) (v63 : BitVec 1) (v953 : FVec F S512x128 .f32) (v1508 : IVec S32x128 1) (cst_756 : F .f32) (cst_757 : F .f32) (hc : ¬ (k0_cond2 i = 1#1 ∧ k0_cond3 i = 1#1 ∧ k0_cond4 i = 1#1 ∧ k0_cond5 i = 1#1)) :
    Tail defs 𝒱 c R I i arg0 arg2 v52 v63 v953 v1508 cst_756 cst_757 := by
  unfold Tail
  refine Fr.dite (fun h2 => Fr.dite (fun h3 => Fr.dite (fun h4 => Fr.dite_neg (fun h5 => hc ⟨h2, h3, h4, h5⟩) ?_) (fun _ => ?_)) (fun _ => ?_)) (fun _ => ?_)
  all_goals repeat
    first
    | with_reducible refine Fr.dite (fun _ => ?_) (fun _ => ?_)
    | with_reducible refine Fr.bind ?_ (fun _ => ?_)
    | with_reducible exact Fr.pure
    | with_reducible exact Fr.load
    | with_reducible exact Fr.store
    | refine Fr.sigma (fun _ _ => ?_)
    | refine Fr.dite (fun _ => ?_) (fun _ => ?_)
    | refine Fr.bind ?_ (fun _ => ?_)

end Run
end
-- ==== Proof.Run.TailB.lean ====
/- The end of the body on the fifth and sixth branches of its switch. -/
module

public import proofs.«01_k».proof.Kernel
public import proofs.«01_k».proof.Proof.Run.Tail

@[expose] public section

noncomputable section

namespace Run

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable [Facts] {F : FTy → Type} [FloatOps F]
variable (defs : Defs nD τ sig (Elt F) Λ₀) (𝒱 : Variants) (c : Dev nD) (R : Refs) (I : Ins F)

set_option maxHeartbeats 0 in
theorem tailB (i : grid0.Coords) (arg0 : BitVec 32) (arg2 : BitVec 32) (v52 : FVec F S512x128 .bf16) (v63 : BitVec 1) (v953 : FVec F S512x128 .f32) (v1508 : IVec S32x128 1) (cst_756 : F .f32) (cst_757 : F .f32) (h2 : k0_cond2 i = 1#1) (h3 : k0_cond3 i = 1#1) (h4 : k0_cond4 i = 1#1) (h5 : k0_cond5 i = 1#1) (hc : ¬ (k0_cond6 i = 1#1 ∧ k0_cond7 i = 1#1)) :
    Tail defs 𝒱 c R I i arg0 arg2 v52 v63 v953 v1508 cst_756 cst_757 := by
  unfold Tail
  refine Fr.dite_pos h2 ?_
  refine Fr.dite_pos h3 ?_
  refine Fr.dite_pos h4 ?_
  refine Fr.dite_pos h5 ?_
  refine Fr.dite (fun h6 => Fr.dite_neg (fun h7 => hc ⟨h6, h7⟩) ?_) (fun _ => ?_)
  all_goals repeat
    first
    | with_reducible refine Fr.dite (fun _ => ?_) (fun _ => ?_)
    | with_reducible refine Fr.bind ?_ (fun _ => ?_)
    | with_reducible exact Fr.pure
    | with_reducible exact Fr.load
    | with_reducible exact Fr.store
    | refine Fr.sigma (fun _ _ => ?_)
    | refine Fr.dite (fun _ => ?_) (fun _ => ?_)
    | refine Fr.bind ?_ (fun _ => ?_)

end Run
end
-- ==== Proof.Run.TailC.lean ====
/- The end of the body on the seventh branch of its switch. -/
module

public import proofs.«01_k».proof.Kernel
public import proofs.«01_k».proof.Proof.Run.Tail

@[expose] public section

noncomputable section

namespace Run

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable [Facts] {F : FTy → Type} [FloatOps F]
variable (defs : Defs nD τ sig (Elt F) Λ₀) (𝒱 : Variants) (c : Dev nD) (R : Refs) (I : Ins F)

set_option maxHeartbeats 0 in
theorem tailC (i : grid0.Coords) (arg0 : BitVec 32) (arg2 : BitVec 32) (v52 : FVec F S512x128 .bf16) (v63 : BitVec 1) (v953 : FVec F S512x128 .f32) (v1508 : IVec S32x128 1) (cst_756 : F .f32) (cst_757 : F .f32) (h2 : k0_cond2 i = 1#1) (h3 : k0_cond3 i = 1#1) (h4 : k0_cond4 i = 1#1) (h5 : k0_cond5 i = 1#1) (h6 : k0_cond6 i = 1#1) (h7 : k0_cond7 i = 1#1) (h8 : ¬ k0_cond8 i = 1#1) :
    Tail defs 𝒱 c R I i arg0 arg2 v52 v63 v953 v1508 cst_756 cst_757 := by
  unfold Tail
  refine Fr.dite_pos h2 ?_
  refine Fr.dite_pos h3 ?_
  refine Fr.dite_pos h4 ?_
  refine Fr.dite_pos h5 ?_
  refine Fr.dite_pos h6 ?_
  refine Fr.dite_pos h7 ?_
  repeat
    first
    | with_reducible refine Fr.dite_neg h8 ?_
    | with_reducible refine Fr.dite (fun _ => ?_) (fun _ => ?_)
    | with_reducible refine Fr.bind ?_ (fun _ => ?_)
    | with_reducible exact Fr.pure
    | with_reducible exact Fr.load
    | with_reducible exact Fr.store
    | refine Fr.sigma (fun _ _ => ?_)
    | refine Fr.dite (fun _ => ?_) (fun _ => ?_)
    | refine Fr.bind ?_ (fun _ => ?_)

end Run
end
-- ==== Proof.Run.TailD.lean ====
/- The end of the body on the last branch of its switch. -/
module

public import proofs.«01_k».proof.Kernel
public import proofs.«01_k».proof.Proof.Run.Tail

@[expose] public section

noncomputable section

namespace Run

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable [Facts] {F : FTy → Type} [FloatOps F]
variable (defs : Defs nD τ sig (Elt F) Λ₀) (𝒱 : Variants) (c : Dev nD) (R : Refs) (I : Ins F)

set_option maxHeartbeats 0 in
theorem tailD (i : grid0.Coords) (arg0 : BitVec 32) (arg2 : BitVec 32) (v52 : FVec F S512x128 .bf16) (v63 : BitVec 1) (v953 : FVec F S512x128 .f32) (v1508 : IVec S32x128 1) (cst_756 : F .f32) (cst_757 : F .f32) (h2 : k0_cond2 i = 1#1) (h3 : k0_cond3 i = 1#1) (h4 : k0_cond4 i = 1#1) (h5 : k0_cond5 i = 1#1) (h6 : k0_cond6 i = 1#1) (h7 : k0_cond7 i = 1#1) (h8 : k0_cond8 i = 1#1) :
    Tail defs 𝒱 c R I i arg0 arg2 v52 v63 v953 v1508 cst_756 cst_757 := by
  unfold Tail
  refine Fr.dite_pos h2 ?_
  refine Fr.dite_pos h3 ?_
  refine Fr.dite_pos h4 ?_
  refine Fr.dite_pos h5 ?_
  refine Fr.dite_pos h6 ?_
  refine Fr.dite_pos h7 ?_
  refine Fr.dite_pos h8 ?_
  repeat
    first
    | with_reducible refine Fr.dite (fun _ => ?_) (fun _ => ?_)
    | with_reducible refine Fr.bind ?_ (fun _ => ?_)
    | with_reducible exact Fr.pure
    | with_reducible exact Fr.load
    | with_reducible exact Fr.store
    | refine Fr.sigma (fun _ _ => ?_)
    | refine Fr.dite (fun _ => ?_) (fun _ => ?_)
    | refine Fr.bind ?_ (fun _ => ?_)

end Run
end
-- ==== Proof.Run.Body.lean ====
/- The body runs from every state: it loads and stores only through the memrefs it is given, and never into an input. -/
module

public import proofs.«01_k».proof.Kernel
public import proofs.«01_k».proof.Proof.Run.TailA
public import proofs.«01_k».proof.Proof.Run.TailB
public import proofs.«01_k».proof.Proof.Run.TailC
public import proofs.«01_k».proof.Proof.Run.TailD

@[expose] public section

noncomputable section

namespace Run

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable [Facts] {F : FTy → Type} [FloatOps F]
variable (defs : Defs nD τ sig (Elt F) Λ₀) (𝒱 : Variants) (c : Dev nD) (R : Refs) (I : Ins F)

/-- The end of the body runs whichever branch its switch takes. -/
theorem tail (i : grid0.Coords) (arg0 : BitVec 32) (arg2 : BitVec 32) (v52 : FVec F S512x128 .bf16) (v63 : BitVec 1) (v953 : FVec F S512x128 .f32) (v1508 : IVec S32x128 1) (cst_756 : F .f32) (cst_757 : F .f32) : Tail defs 𝒱 c R I i arg0 arg2 v52 v63 v953 v1508 cst_756 cst_757 := by
  by_cases hA : k0_cond2 i = 1#1 ∧ k0_cond3 i = 1#1 ∧ k0_cond4 i = 1#1 ∧ k0_cond5 i = 1#1
  swap; · exact tailA _ _ _ _ _ i _ _ _ _ _ _ _ _ hA
  obtain ⟨h2, h3, h4, h5⟩ := hA
  by_cases hB : k0_cond6 i = 1#1 ∧ k0_cond7 i = 1#1
  swap; · exact tailB _ _ _ _ _ i _ _ _ _ _ _ _ _ h2 h3 h4 h5 hB
  obtain ⟨h6, h7⟩ := hB
  by_cases h8 : k0_cond8 i = 1#1
  · exact tailD _ _ _ _ _ i _ _ _ _ _ _ _ _ h2 h3 h4 h5 h6 h7 h8
  · exact tailC _ _ _ _ _ i _ _ _ _ _ _ _ _ h2 h3 h4 h5 h6 h7 h8

set_option maxHeartbeats 0 in
theorem body_runs (i : grid0.Coords) : Fr (c := (c : Thread nD τ)) defs 𝒱 (own F c R I) (cc0_nsa_prompt i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20) := by
  have ht := tail defs 𝒱 c R I
  unfold Tail at ht
  repeat
    first
    | with_reducible exact ht _ _ _ _ _ _ _ _ _
    | with_reducible refine Fr.dite (fun _ => ?_) (fun _ => ?_)
    | with_reducible refine Fr.bind ?_ (fun _ => ?_)
    | with_reducible exact Fr.pure
    | with_reducible exact Fr.load
    | with_reducible exact Fr.store
    | refine Fr.sigma (fun _ _ => ?_)
    | exact Fr.pure
    | split
    | refine Fr.dite (fun _ => ?_) (fun _ => ?_)
    | refine Fr.bind ?_ (fun _ => ?_)

end Run
end
-- ==== Proof.Run.Launch.lean ====
/- The launch: the body's run put under the pipeline's schedule, and the run of the whole call. -/
module

public import proofs.«01_k».proof.Proof.Gen.Kernel.Frame
public import proofs.«01_k».proof.Proof.Run.Body
public import Idealize.ShloMosaic.Lib.Pipeline.Frame
public import Idealize.ShloMosaic.Lib.Tactic

@[expose] public section

noncomputable section

namespace Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The memrefs the body is handed at point `t`. -/
def refs (t : Fin cfg0.N) : Refs where
  a3 := win0_0.stage (cfg0.slots t 0)
  h3 := hstage0_0 ((cfg0.slots t 0).cast nbuf0_0)
  a4 := win0_1.stage (cfg0.slots t 1)
  h4 := hstage0_1 ((cfg0.slots t 1).cast nbuf0_1)
  a5 := win0_2.stage (cfg0.slots t 2)
  h5 := hstage0_2 ((cfg0.slots t 2).cast nbuf0_2)
  a6 := win0_3.stage (cfg0.slots t 3)
  h6 := hstage0_3 ((cfg0.slots t 3).cast nbuf0_3)
  a7 := win0_4.stage (cfg0.slots t 4)
  h7 := hstage0_4 ((cfg0.slots t 4).cast nbuf0_4)
  a8 := win0_5.stage (cfg0.slots t 5)
  h8 := hstage0_5 ((cfg0.slots t 5).cast nbuf0_5)
  a9 := win0_6.stage (cfg0.slots t 6)
  h9 := hstage0_6 ((cfg0.slots t 6).cast nbuf0_6)
  a10 := win0_7.stage (cfg0.slots t 7)
  h10 := hstage0_7 ((cfg0.slots t 7).cast nbuf0_7)
  a11 := win0_8.stage (cfg0.slots t 8)
  h11 := hstage0_8 ((cfg0.slots t 8).cast nbuf0_8)
  a12 := win0_9.stage (cfg0.slots t 9)
  h12 := hstage0_9 ((cfg0.slots t 9).cast nbuf0_9)
  a13 := win0_10.stage (cfg0.slots t 10)
  h13 := hstage0_10 ((cfg0.slots t 10).cast nbuf0_10)
  a14 := win0_11.stage (cfg0.slots t 11)
  h14 := hstage0_11 ((cfg0.slots t 11).cast nbuf0_11)
  a15 := Memref.whole cc0_scratch0
  h15 := Memref.isWhole_whole _
  a16 := Memref.whole cc0_scratch1
  h16 := Memref.isWhole_whole _
  a17 := Memref.whole cc0_scratch2
  h17 := Memref.isWhole_whole _
  a18 := Memref.whole cc0_scratch3
  h18 := Memref.isWhole_whole _
  a19 := Memref.whole cc0_scratch4
  h19 := Memref.isWhole_whole _
  a20 := Memref.whole cc0_scratch5
  h20 := Memref.isWhole_whole _

/-- What the body leaves in a window's staging buffer: an input as it was found, the output at anything. -/
def left (t : Fin cfg0.N) (w : Fin cfg0.W) (Y X : (cfg0.win w).block.Idx → Elt F (cfg0.win w).elt) : Prop :=
  (cfg0.win w).isOut = false → X = Y

/-- The proof data on core `c`: the arrays as launched, each input at its share of its array, the scratches and the
    generator register as the invariant, nothing owed. -/
def rdat (c : Dev nD) : RDat τ (Elt F) Unit ℕ (UR sig nD τ) ℕ cfg0 c where
  A w := V m c (Pipeline.arrRef spec0 w)
  after w t Y X := left t w Y X
  Φ _ := Pipeline.ΦA spec0 c
  q w := Pipeline.shareOf spec0 w
  owed _ := 0

/-- The invariant, scratch by scratch. -/
theorem inv_eq (c : Dev nD) (t : Fin cfg0.N) : (Pipeline.ΦA spec0 c : sProp 𝕄) =
    iprop(((∃ f, owns (c : Thread nD τ) (refs t).a15 fullShare f) ∗ (∃ f, owns (c : Thread nD τ) (refs t).a16 fullShare f) ∗ (∃ f, owns (c : Thread nD τ) (refs t).a17 fullShare f) ∗ (∃ f, owns (c : Thread nD τ) (refs t).a18 fullShare f) ∗ (∃ f, owns (c : Thread nD τ) (refs t).a19 fullShare f) ∗ (∃ f, owns (c : Thread nD τ) (refs t).a20 fullShare f)) ∗ ∃ r, prngReg c r) := by
  unfold Pipeline.ΦA
  rw [scopedRest0_eq]
  simp only [refs, owns_whole]
  try rfl

/-- The body at a point: from the invariant and the windows it runs, leaving the inputs as they were. -/
theorem sound_body (c : Dev nD) (t : Fin cfg0.N) (Y : (w : Fin cfg0.W) → (cfg0.win w).block.Idx → Elt F (cfg0.win w).elt) (O : sProp 𝕄) :
    iprop(Pipeline.ΦA spec0 c ∗ O ∗ owns (c : Thread nD τ) (refs t).a3 fullShare (Y 0) ∗ owns (c : Thread nD τ) (refs t).a4 fullShare (Y 1) ∗ owns (c : Thread nD τ) (refs t).a5 fullShare (Y 2) ∗ owns (c : Thread nD τ) (refs t).a6 fullShare (Y 3) ∗ owns (c : Thread nD τ) (refs t).a7 fullShare (Y 4) ∗ owns (c : Thread nD τ) (refs t).a8 fullShare (Y 5) ∗ owns (c : Thread nD τ) (refs t).a9 fullShare (Y 6) ∗ owns (c : Thread nD τ) (refs t).a10 fullShare (Y 7) ∗ owns (c : Thread nD τ) (refs t).a11 fullShare (Y 8) ∗ owns (c : Thread nD τ) (refs t).a12 fullShare (Y 9) ∗ owns (c : Thread nD τ) (refs t).a13 fullShare (Y 10) ∗ owns (c : Thread nD τ) (refs t).a14 fullShare (Y 11))
      ⊢ wp frame (wpE (defs₀ (F := F)) Variants.none c none) Set.univ (bodyAt0 t) fun _ =>
        iprop(Pipeline.ΦA spec0 c ∗ O ∗ (∃ X, ⌜left t 0 (Y 0) X⌝ ∗ owns (c : Thread nD τ) (refs t).a3 fullShare X) ∗ (∃ X, ⌜left t 1 (Y 1) X⌝ ∗ owns (c : Thread nD τ) (refs t).a4 fullShare X) ∗ (∃ X, ⌜left t 2 (Y 2) X⌝ ∗ owns (c : Thread nD τ) (refs t).a5 fullShare X) ∗ (∃ X, ⌜left t 3 (Y 3) X⌝ ∗ owns (c : Thread nD τ) (refs t).a6 fullShare X) ∗ (∃ X, ⌜left t 4 (Y 4) X⌝ ∗ owns (c : Thread nD τ) (refs t).a7 fullShare X) ∗ (∃ X, ⌜left t 5 (Y 5) X⌝ ∗ owns (c : Thread nD τ) (refs t).a8 fullShare X) ∗ (∃ X, ⌜left t 6 (Y 6) X⌝ ∗ owns (c : Thread nD τ) (refs t).a9 fullShare X) ∗ (∃ X, ⌜left t 7 (Y 7) X⌝ ∗ owns (c : Thread nD τ) (refs t).a10 fullShare X) ∗ (∃ X, ⌜left t 8 (Y 8) X⌝ ∗ owns (c : Thread nD τ) (refs t).a11 fullShare X) ∗ (∃ X, ⌜left t 9 (Y 9) X⌝ ∗ owns (c : Thread nD τ) (refs t).a12 fullShare X) ∗ (∃ X, ⌜left t 10 (Y 10) X⌝ ∗ owns (c : Thread nD τ) (refs t).a13 fullShare X) ∗ (∃ X, ⌜left t 11 (Y 11) X⌝ ∗ owns (c : Thread nD τ) (refs t).a14 fullShare X)) := by
  rw [inv_eq c t]
  iintro ⟨⟨⟨⟨%f0, S0⟩, ⟨%f1, S1⟩, ⟨%f2, S2⟩, ⟨%f3, S3⟩, ⟨%f4, S4⟩, ⟨%f5, S5⟩⟩, Hg⟩, HO, W0, W1, W2, W3, W4, W5, W6, W7, W8, W9, W10, W11⟩
  iapply (wp_wand_r frame (wpE (defs₀ (F := F)) Variants.none c none) Set.univ)
  isplitl [S0 S1 S2 S3 S4 S5 W0 W1 W2 W3 W4 W5 W6 W7 W8 W9 W10 W11]
  · iapply ((body_runs (defs₀ (F := F)) Variants.none c (refs t) ⟨Y 0, Y 1, Y 2, Y 3, Y 4, Y 5, Y 6, Y 7, Y 8, Y 9, Y 10⟩ (grid0.coords t) (Y 11, f0, f1, f2, f3, f4, f5)).sound)
    unfold own fixed held last
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [S0]; · iexact S0
    isplitl [S1]; · iexact S1
    isplitl [S2]; · iexact S2
    isplitl [S3]; · iexact S3
    isplitl [S4]; · iexact S4
    iexact S5
  iintro %a ⟨%σ, -, H⟩
  unfold own fixed held last
  icases H with ⟨W0, W1, W2, W3, W4, W5, W6, W7, W8, W9, W10, W11, S0, S1, S2, S3, S4, S5⟩
  isplitl [S0 S1 S2 S3 S4 S5 Hg]
  · isplitl [S0 S1 S2 S3 S4 S5]
    · isplitl [S0]; · iexists _; iexact S0
      isplitl [S1]; · iexists _; iexact S1
      isplitl [S2]; · iexists _; iexact S2
      isplitl [S3]; · iexists _; iexact S3
      isplitl [S4]; · iexists _; iexact S4
      iexists _; iexact S5
    iexact Hg
  isplitl [HO]; · iexact HO
  isplitl [W0]; · (iexists _; isplitr; swap; (iexact W0); (ipureintro; exact fun _ => rfl))
  isplitl [W1]; · (iexists _; isplitr; swap; (iexact W1); (ipureintro; exact fun _ => rfl))
  isplitl [W2]; · (iexists _; isplitr; swap; (iexact W2); (ipureintro; exact fun _ => rfl))
  isplitl [W3]; · (iexists _; isplitr; swap; (iexact W3); (ipureintro; exact fun _ => rfl))
  isplitl [W4]; · (iexists _; isplitr; swap; (iexact W4); (ipureintro; exact fun _ => rfl))
  isplitl [W5]; · (iexists _; isplitr; swap; (iexact W5); (ipureintro; exact fun _ => rfl))
  isplitl [W6]; · (iexists _; isplitr; swap; (iexact W6); (ipureintro; exact fun _ => rfl))
  isplitl [W7]; · (iexists _; isplitr; swap; (iexact W7); (ipureintro; exact fun _ => rfl))
  isplitl [W8]; · (iexists _; isplitr; swap; (iexact W8); (ipureintro; exact fun _ => rfl))
  isplitl [W9]; · (iexists _; isplitr; swap; (iexact W9); (ipureintro; exact fun _ => rfl))
  isplitl [W10]; · (iexists _; isplitr; swap; (iexact W10); (ipureintro; exact fun _ => rfl))
  iexists _; isplitr; swap; · iexact W11
  ipureintro; exact fun h => absurd h (by decide)

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : (rdat m c).BodyObligation (defs₀ (F := F)) Variants.none () Set.univ := fun t Y _ => by
  rw [bigSep_W0, bigSep_W0, defs₀_row]
  exact triple_restated (sound_body c t Y ((rdat m c).owesAt () t.castSucc)) rfl .rfl fun _ => .rfl

set_option backward.isDefEq.respectTransparency.types false in
/-- From any memory with zero counters every fair execution of the call ends, leaving the input arrays as they were. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track_shared (Q' := _) cfgs (0 : Fin 1) launch₀0 defs₀ Variants.none (fun c => rdat m c) m ρ main
    (hbody := fun c => body_obligation m c) (hq := fun _ _ _ => rfl) (howed := fun _ _ => rfl) (V := V m)
    (hmain := hmain m Variants.none) (hA := fun _ _ => rfl) (hin := fun _ => .rfl) (hout := fun _ => .rfl)

/-- The post of the frame claim: every argument array ends as it was launched, every counter at zero. -/
theorem args_kept {r : PUnit × MemSt nD τ sig (Elt F)}
    (h : Pipeline.RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨h.arr_in c 0 rfl, h.arr_in c 2 rfl, h.arr_in c 4 rfl, h.arr_in c 5 rfl, h.arr_in c 6 rfl, h.arr_in c 7 rfl,
    h.arr_in c 8 rfl, h.arr_in c 9 rfl, h.arr_in c 10 rfl⟩

end Run
end
-- ==== Proof.Value.Ffn.lean ====
/- What the feed-forward call leaves in its result array, over the extended reals: row by row the reference's own
   expression. A grid point holds 512 token rows and the whole of the norm's scale and of the three weight matrices, so
   an element of its block needs nothing from any other point. First each staged array is read at an index in terms of
   the arguments (the token matrix is a reshape, the gate and up weights are the two halves of one matrix's columns), then each block, then the
   stored row. -/
module

public import proofs.«01_k».proof.Proof.Gen.FfnIdeal.Value
public import proofs.«01_k».proof.Proof.Gen.FfnRefIdeal.Read
public import Idealize.ShloMosaic.Lib.Pipeline.ValueKit

@[expose] public section
set_option maxRecDepth 16384
noncomputable section
namespace Cert.FfnIdeal.Rows
open Idealize.ShloMosaic Idealize.ShloMosaic.TcCoe Idealize.SL.Sem
open Idealize.ShloMosaic.Pipeline (Dat)
open Cert.FfnIdeal Cert.FfnIdeal.Gen
open Cert.FfnRefIdeal.Read
variable (m : (ℓ : Loc nD τ sig) → Buf (Elt Ideal) ℓ)

/-- The block each window holds at point `t`: the tokens and the result advance by one block per point, the rest stay. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] :=
  (by decide +kernel : ∀ t : Fin grid0.N, _)

/-- Row `r` of the token matrix is a token of batch element `r / 2048`. -/
theorem entry_x (c : Dev nD) (r : Fin 32768) (k : Fin 1024) : V m c main_v0 (ix2 r k)
    = m ((c : Thread nD τ).loc main_arg0) (ix3 ⟨r.val / 2048, by omega⟩ ⟨r.val % 2048, by omega⟩ k) := by
  entry_read
  pointwise

/-- The norm's scale, as a matrix of one row. -/
theorem entry_g (c : Dev nD) (r : Fin 1) (k : Fin 1024) : V m c main_v6 (ix2 r k)
    = m ((c : Thread nD τ).loc main_arg1) (ix1 k) := by
  entry_read
  pointwise

/-- The gate weights are the first half of the columns. -/
theorem entry_gate (c : Dev nD) (k : Fin 1024) (x : Fin 2816) : V m c main_v2 (ix2 k x)
    = m ((c : Thread nD τ).loc main_arg2) (ix2 k ⟨x.val, by omega⟩) := by
  entry_read
  pointwise

/-- The up weights are the second half of the columns. -/
theorem entry_up (c : Dev nD) (k : Fin 1024) (x : Fin 2816) : V m c main_v4 (ix2 k x)
    = m ((c : Thread nD τ).loc main_arg2) (ix2 k ⟨2816 + x.val, by omega⟩) := by
  entry_read
  pointwise

/-- The second matrix is staged as it is. -/
theorem entry_out (c : Dev nD) (k : Fin 2816) (x : Fin 1024) : V m c main_v5 (ix2 k x)
    = m ((c : Thread nD τ).loc main_arg3) (ix2 k x) := by
  entry_read
  pointwise

/-- Row `r` of point `t`'s token block. -/
theorem blk_x (c : Dev nD) (t : Fin cfg0.N) (r : Fin 512) (k : Fin 1024) : iblk m c 0 t (ix2 r k)
    = m ((c : Thread nD τ).loc main_arg0) (ix3 ⟨(t.val * 512 + r.val) / 2048, by have : t.val < 64 := t.isLt; omega⟩ ⟨(t.val * 512 + r.val) % 2048, by omega⟩ k) := by
  have ht : t.val < 64 := t.isLt
  blk_simp [iblk]
  exact (congrArg (V m c main_v0) (by blk_ext [idx t])).trans (entry_x m c ⟨t.val * 512 + r.val, by omega⟩ k)

/-- Every point holds the whole scale. -/
theorem blk_g (c : Dev nD) (t : Fin cfg0.N) (r : Fin 1) (k : Fin 1024) : iblk m c 1 t (ix2 r k)
    = m ((c : Thread nD τ).loc main_arg1) (ix1 k) := by
  blk_simp [iblk]
  exact (congrArg (V m c main_v6) (by blk_ext [idx t])).trans (entry_g m c r k)

/-- Every point holds all gate weights. -/
theorem blk_gate (c : Dev nD) (t : Fin cfg0.N) (k : Fin 1024) (x : Fin 2816) : iblk m c 2 t (ix2 k x)
    = m ((c : Thread nD τ).loc main_arg2) (ix2 k ⟨x.val, by omega⟩) := by
  blk_simp [iblk]
  exact (congrArg (V m c main_v2) (by blk_ext [idx t])).trans (entry_gate m c k x)

/-- Every point holds all up weights. -/
theorem blk_up (c : Dev nD) (t : Fin cfg0.N) (k : Fin 1024) (x : Fin 2816) : iblk m c 3 t (ix2 k x)
    = m ((c : Thread nD τ).loc main_arg2) (ix2 k ⟨2816 + x.val, by omega⟩) := by
  blk_simp [iblk]
  exact (congrArg (V m c main_v4) (by blk_ext [idx t])).trans (entry_up m c k x)

/-- Every point holds all of the second matrix. -/
theorem blk_out (c : Dev nD) (t : Fin cfg0.N) (k : Fin 2816) (x : Fin 1024) : iblk m c 4 t (ix2 k x)
    = m ((c : Thread nD τ).loc main_arg3) (ix2 k x) := by
  blk_simp [iblk]
  exact (congrArg (V m c main_v5) (by blk_ext [idx t])).trans (entry_out m c k x)
set_option maxHeartbeats 1000000 in
/-- An element of what point `t` stores is the reference's element at the row it stands for. -/
theorem point (c : Dev nD) (t : Fin cfg0.N) (y) : k0_pay1 (iblk m c 0 t) (iblk m c 1 t) (iblk m c 2 t) (iblk m c 3 t) (iblk m c 4 t) y
    = val_main_v22 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  idx_vars y
  have ht : t.val < 64 := t.isLt
  have e : ((cfg0.win 5).blk t).view.emb (ix2 y0 y1) = ix2 ⟨t.val * 512 + y0.val, by omega⟩ y1 := by blk_ext [idx t]
  refine Eq.trans ?_ (congrArg (val_main_v22 (F := Ideal) _ _ _ _) e.symm)
  pointwise [k0_pay1, Ideal.logistic, val_main_v0,val_main_v1,val_main_cst,val_main_v2,val_main_v3,val_main_cst_0,val_main_v4,val_main_v5,val_main_cst_1,val_main_v6,val_main_v7,val_main_v8,val_main_v9,val_main_v10,val_main_v11,val_main_v12,val_main_v13,val_main_v14,val_main_v15,val_main_v16,val_main_call0_v0,val_main_call0_v1,val_main_call0_cst,val_main_call0_v2,val_main_call0_v3,val_main_call0_cst_0,val_main_call0_v4,val_main_call0_v5,val_main_v17,val_main_v18,val_main_v19,val_main_cst_2,val_main_v20,val_main_v21,val_main_v22]
  reads_congr
  · exact blk_x m c t _ _
  · exact blk_x m c t _ _
  · exact blk_g m c t _ _
  · exact blk_gate m c t _ _
  · exact blk_up m c t _ _
  · exact blk_out m c t _ _

/-- The result array after the last point: the 64 blocks cover it. -/
theorem final (c : Dev nD) : (dats m 0 c).arrAt 5 cfg0.N
    = val_main_v22 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y
end Cert.FfnIdeal.Rows
-- ==== Proof.Value.FfnClaim.lean ====
/- The feed-forward call's claims: it ends with its arguments unchanged and every counter at zero, and over the
   extended reals its result is the one its reference computes. -/
module

public import proofs.«01_k».proof.Defs
public import proofs.«01_k».proof.Proof.Value.Ffn
public import proofs.«01_k».proof.Proof.Gen.Ffn.Frame
public import proofs.«01_k».proof.Proof.Gen.FfnRefIdeal.Run
public import Idealize.ShloMosaic.Lib.Quiescent

@[expose] public section

set_option maxRecDepth 16384

noncomputable section

namespace Cert.FfnIdeal.Rows

open Idealize.ShloMosaic Idealize.ShloMosaic.TcCoe Idealize.SL.Sem

/-- The feed-forward call and its reference compute the same array over the extended reals. -/
theorem algebraic : Cert.algebraic_FfnIdeal_FfnRefIdeal (hFfnIdeal := Cert.FfnIdeal.Gen.facts) (hFfnRefIdeal := Cert.FfnRefIdeal.Gen.facts) := by
  pair_intro
  · run_from Cert.FfnIdeal.Value.run_blocks m g
  · run_from Cert.FfnRefIdeal.Value.run m' g'
    exact (final m c).symm

/-- The reference is host operations only and declares no counter, so its run is its frame. -/
theorem frame_reference : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The call as printed runs to its end, its arguments as they were and every counter at zero. -/
theorem frame_call : Cert.quiescent_Ffn (hFfn := Cert.Ffn.Gen.facts) := fun m ρ _ => Cert.Ffn.Gen.frame m ρ

/-- So does the same call read over the extended reals. -/
theorem frame_call_ideal : Cert.quiescent_FfnIdeal (hFfnIdeal := Cert.FfnIdeal.Gen.facts) := fun m ρ _ => Cert.FfnIdeal.Gen.frame m ρ

end Cert.FfnIdeal.Rows
end
-- ==== Proof.Value.Merge.lean ====
/- What the call that merges the two branches leaves in its result array, over the extended reals: row by row the
   reference's own expression. A grid point holds 512 token rows of the stream, of the two branches' outputs and of the
   gates, and the whole of the three weight matrices. First each staged array that the host prepares is read at an index
   in terms of the arguments, then each block, then the stored row. -/
module

public import proofs.«01_k».proof.Proof.Gen.MergeIdeal.Value
public import proofs.«01_k».proof.Proof.Gen.MergeRefIdeal.Read
public import Idealize.ShloMosaic.Lib.Pipeline.ValueKit

@[expose] public section

set_option maxRecDepth 16384

noncomputable section

namespace Cert.MergeIdeal.Rows

open Idealize.ShloMosaic Idealize.ShloMosaic.TcCoe Idealize.SL.Sem
open Idealize.ShloMosaic.Pipeline (Dat)
open Cert.MergeIdeal Cert.MergeIdeal.Gen
open Cert.MergeRefIdeal.Read

variable (m : (ℓ : Loc nD τ sig) → Buf (Elt Ideal) ℓ)

/-- The block each window holds at point `t`: the four row windows and the result advance, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] :=
  (by decide +kernel : ∀ t : Fin grid0.N, _)

/-- Row `r` of the state-space branch is a token of batch element `r / 2048`. -/
theorem entry_y (c : Dev nD) (r : Fin 32768) (k : Fin 2048) : V m c main_v0 (ix2 r k)
    = m ((c : Thread nD τ).loc main_arg1) (ix3 ⟨r.val / 2048, by omega⟩ ⟨r.val % 2048, by omega⟩ k) := by
  entry_read
  pointwise

/-- Row `r` of the attention branch likewise. -/
theorem entry_o (c : Dev nD) (r : Fin 32768) (k : Fin 1024) : V m c main_v1 (ix2 r k)
    = m ((c : Thread nD τ).loc main_arg2) (ix3 ⟨r.val / 2048, by omega⟩ ⟨r.val % 2048, by omega⟩ k) := by
  entry_read
  pointwise

/-- The state-space branch's matrix is staged as it is. -/
theorem entry_wa (c : Dev nD) (k : Fin 2048) (x : Fin 1024) : V m c main_v2 (ix2 k x)
    = m ((c : Thread nD τ).loc main_arg4) (ix2 k x) := by
  entry_read
  pointwise

/-- So is the attention branch's. -/
theorem entry_wb (c : Dev nD) (k : Fin 1024) (x : Fin 1024) : V m c main_v3 (ix2 k x)
    = m ((c : Thread nD τ).loc main_arg5) (ix2 k x) := by
  entry_read
  pointwise

/-- So is the output matrix. -/
theorem entry_wo (c : Dev nD) (k : Fin 1024) (x : Fin 1024) : V m c main_v4 (ix2 k x)
    = m ((c : Thread nD τ).loc main_arg6) (ix2 k x) := by
  entry_read
  pointwise

/-- Row `r` of point `t`'s block of the stream. -/
theorem blk_x (c : Dev nD) (t : Fin cfg0.N) (r : Fin 512) (k : Fin 1024) : iblk m c 0 t (ix2 r k)
    = m ((c : Thread nD τ).loc main_arg0) (ix2 ⟨t.val * 512 + r.val, by have : t.val < 64 := t.isLt; omega⟩ k) := by
  blk_ext [iblk, V, idx t]

/-- Row `r` of point `t`'s block of the state-space branch. -/
theorem blk_y (c : Dev nD) (t : Fin cfg0.N) (r : Fin 512) (k : Fin 2048) : iblk m c 1 t (ix2 r k)
    = m ((c : Thread nD τ).loc main_arg1) (ix3 ⟨(t.val * 512 + r.val) / 2048, by have : t.val < 64 := t.isLt; omega⟩
        ⟨(t.val * 512 + r.val) % 2048, by omega⟩ k) := by
  have ht : t.val < 64 := t.isLt
  blk_simp [iblk]
  exact (congrArg (V m c main_v0) (by blk_ext [idx t])).trans (entry_y m c ⟨t.val * 512 + r.val, by omega⟩ k)

/-- Row `r` of point `t`'s block of the attention branch. -/
theorem blk_o (c : Dev nD) (t : Fin cfg0.N) (r : Fin 512) (k : Fin 1024) : iblk m c 2 t (ix2 r k)
    = m ((c : Thread nD τ).loc main_arg2) (ix3 ⟨(t.val * 512 + r.val) / 2048, by have : t.val < 64 := t.isLt; omega⟩
        ⟨(t.val * 512 + r.val) % 2048, by omega⟩ k) := by
  have ht : t.val < 64 := t.isLt
  blk_simp [iblk]
  exact (congrArg (V m c main_v1) (by blk_ext [idx t])).trans (entry_o m c ⟨t.val * 512 + r.val, by omega⟩ k)

/-- Row `r` of point `t`'s block of gate logits. -/
theorem blk_mg (c : Dev nD) (t : Fin cfg0.N) (r : Fin 512) (k : Fin 2048) : iblk m c 3 t (ix2 r k)
    = m ((c : Thread nD τ).loc main_arg3) (ix2 ⟨t.val * 512 + r.val, by have : t.val < 64 := t.isLt; omega⟩ k) := by
  blk_ext [iblk, V, idx t]

/-- Every point holds all of the state-space branch's matrix. -/
theorem blk_wa (c : Dev nD) (t : Fin cfg0.N) (k : Fin 2048) (x : Fin 1024) : iblk m c 4 t (ix2 k x)
    = m ((c : Thread nD τ).loc main_arg4) (ix2 k x) := by
  blk_simp [iblk]
  exact (congrArg (V m c main_v2) (by blk_ext [idx t])).trans (entry_wa m c k x)

/-- Every point holds all of the attention branch's matrix. -/
theorem blk_wb (c : Dev nD) (t : Fin cfg0.N) (k : Fin 1024) (x : Fin 1024) : iblk m c 5 t (ix2 k x)
    = m ((c : Thread nD τ).loc main_arg5) (ix2 k x) := by
  blk_simp [iblk]
  exact (congrArg (V m c main_v3) (by blk_ext [idx t])).trans (entry_wb m c k x)

/-- Every point holds all of the output matrix. -/
theorem blk_wo (c : Dev nD) (t : Fin cfg0.N) (k : Fin 1024) (x : Fin 1024) : iblk m c 6 t (ix2 k x)
    = m ((c : Thread nD τ).loc main_arg6) (ix2 k x) := by
  blk_simp [iblk]
  exact (congrArg (V m c main_v4) (by blk_ext [idx t])).trans (entry_wo m c k x)

set_option maxHeartbeats 1000000 in
/-- An element of what point `t` stores is the reference's element at the row it stands for. -/
theorem point (c : Dev nD) (t : Fin cfg0.N) (y) :
    k0_pay1 (iblk m c 1 t) (iblk m c 4 t) (iblk m c 2 t) (iblk m c 5 t) (iblk m c 3 t) (iblk m c 0 t) (iblk m c 6 t) y
      = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  idx_vars y
  have ht : t.val < 64 := t.isLt
  have e : ((cfg0.win 7).blk t).view.emb (ix2 y0 y1) = ix2 ⟨t.val * 512 + y0.val, by omega⟩ y1 := by blk_ext [idx t]
  refine Eq.trans ?_ (congrArg (val_main_v18 (F := Ideal) _ _ _ _ _ _ _) e.symm)
  pointwise [k0_pay1, Ideal.logistic, val_main_v0, val_main_v1, val_main_v2, val_main_v3, val_main_v4, val_main_v5, val_main_v6, val_main_v7, val_main_cst, val_main_v8, val_main_v9, val_main_cst_0, val_main_v10, val_main_v11, val_main_v12, val_main_v13, val_main_v14, val_main_v15, val_main_v16, val_main_v17, val_main_v18]
  reads_congr
  · exact blk_x m c t _ _
  · exact blk_mg m c t _ _
  · exact blk_y m c t _ _
  · exact blk_wa m c t _ _
  · exact blk_mg m c t _ _
  · exact blk_o m c t _ _
  · exact blk_wb m c t _ _
  · exact blk_wo m c t _ _

/-- The result array after the last point: the 64 blocks cover it. -/
theorem final (c : Dev nD) : (dats m 0 c).arrAt 7 cfg0.N = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]; frame_out
  exact point m c t y

end Cert.MergeIdeal.Rows

end
-- ==== Proof.Value.MergeClaim.lean ====
/- The merging call's claims: it ends with its arguments unchanged and every counter at zero, and over the
   extended reals its result is the one its reference computes. -/
module

public import proofs.«01_k».proof.Defs
public import proofs.«01_k».proof.Proof.Value.Merge
public import proofs.«01_k».proof.Proof.Gen.Merge.Frame
public import proofs.«01_k».proof.Proof.Gen.MergeRefIdeal.Run
public import Idealize.ShloMosaic.Lib.Quiescent

@[expose] public section

set_option maxRecDepth 16384

noncomputable section

namespace Cert.MergeIdeal.Rows

open Idealize.ShloMosaic Idealize.ShloMosaic.TcCoe Idealize.SL.Sem

/-- The merging call and its reference compute the same array over the extended reals. -/
theorem algebraic : Cert.algebraic_MergeIdeal_MergeRefIdeal (hMergeIdeal := Cert.MergeIdeal.Gen.facts) (hMergeRefIdeal := Cert.MergeRefIdeal.Gen.facts) := by
  pair_intro
  · run_from Cert.MergeIdeal.Value.run_blocks m g
  · run_from Cert.MergeRefIdeal.Value.run m' g'
    exact (final m c).symm

/-- The reference is host operations only and declares no counter, so its run is its frame. -/
theorem frame_reference : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The call as printed runs to its end, its arguments as they were and every counter at zero. -/
theorem frame_call : Cert.quiescent_Merge (hMerge := Cert.Merge.Gen.facts) := fun m ρ _ => Cert.Merge.Gen.frame m ρ

/-- So does the same call read over the extended reals. -/
theorem frame_call_ideal : Cert.quiescent_MergeIdeal (hMergeIdeal := Cert.MergeIdeal.Gen.facts) := fun m ρ _ => Cert.MergeIdeal.Gen.frame m ρ

end Cert.MergeIdeal.Rows
end
-- ==== Proof.Value.InProj.Head.lean ====
/- The norm of a head, as the input projection's call does it: on a block of 128 lanes, two heads at a time. The sum of
   squares of each head is taken over all 128 lanes with the other head's lanes put to zero, and each lane then picks its
   own head's factor. Read at an index this is the plain norm of the lane's own 64 lanes. -/
module

public import proofs.«01_k».proof.Proof.Gen.InProjIdeal.Skeleton
public import Idealize.ShloMosaic.Lib.Pipeline.ValueKit
public import Idealize.ShloMosaic.Lib.WordCmp

@[expose] public section

set_option maxRecDepth 16384

noncomputable section

namespace Cert.InProjIdeal.Rows

open Idealize.ShloMosaic Idealize.SL.Sem
open Cert.InProjIdeal Cert.InProjIdeal.Gen

variable {F : FTy → Type} [FloatOps F]

/-- The lanes of the first of the two heads. -/
def firstHead : IVec S1x128 1 := cmpi .slt (iota .tc S1x128 32 [1] iota_S1x128_d1_w32) (broadcast S1x128 64#32)

/-- The same, for each of the 256 rows. -/
def firstHeads : IVec S256x128 1 :=
  broadcastTo S256x128 (shapeCast S1x128 firstHead shapeCasts_S1x128_S1x128) broadcasts_S1x128_S256x128

/-- A row's factor from its 128 squares, those of the other head put to zero. -/
def factor (s : FVec F S256x128 .f32) : FVec F S256x1 .f32 :=
  rsqrt (addf (divf (shapeCast S256x1 (multiReduction .add [1] S256 s 0x00000000#32 reduces_S256x128_S256 (.inl rfl) rfl) shapeCasts_S256_S256x1)
    (broadcast S256x1 (Scalar.ofBits .f32 0x42800000#32))) (broadcast S256x1 (Scalar.ofBits .f32 0x358637BD#32)))

/-- A row's factor at every lane. -/
def spread (s : FVec F S256x1 .f32) : FVec F S256x128 .f32 :=
  broadcastTo S256x128 (shapeCast S256x1 s shapeCasts_S256x1_S256x1) broadcasts_S256x1_S256x128

/-- Two heads, normed and scaled lane by lane with the gains `g`. -/
def headNorm (a : FVec F S256x128 .f32) (g : FVec F S1x128 .f32) : FVec F S256x128 .f32 :=
  mulf (mulf a (select firstHeads
      (spread (factor (select firstHeads (mulf a a) (broadcast S256x128 (Scalar.ofBits .f32 0x00000000#32)))))
      (spread (factor (select firstHeads (broadcast S256x128 (Scalar.ofBits .f32 0x00000000#32)) (mulf a a))))))
    (broadcastTo S256x128 g broadcasts_S1x128_S256x128)

/-- The sum over the first head's lanes. -/
theorem sum_first (f : Fin 128 → EReal) :
    (∑ x : Fin 128, if x.val < 64 then f x else 0) = ∑ d : Fin 64, f ⟨d.val, by omega⟩ := by
  rw [Fin.sum_univ_add (a := 64) (b := 64) (fun x : Fin 128 => if x.val < 64 then f x else 0)]
  simp [Fin.castAdd, Fin.natAdd, Fin.castLE]

/-- The sum over the second head's lanes. -/
theorem sum_second (f : Fin 128 → EReal) :
    (∑ x : Fin 128, if x.val < 64 then 0 else f x) = ∑ d : Fin 64, f ⟨64 + d.val, by omega⟩ := by
  rw [Fin.sum_univ_add (a := 64) (b := 64) (fun x : Fin 128 => if x.val < 64 then 0 else f x)]
  simp [Fin.castAdd, Fin.natAdd, Fin.castLE]

/-- A choice by lane is a choice on the lane's number. -/
theorem select_lane (x : Fin 128) (A B : EReal) :
    Scalar.select (IntOp.cmpi CmpIPredicate.slt (BitVec.ofNat 32 x.val) 64#32) A B = if x.val < 64 then A else B := by
  rw [show (64#32) = BitVec.ofNat 32 64 from rfl, WordCmp.cmpi_slt_ofNat (by omega) (by omega), WordCmp.select_ofBool]
  simp

/-- A lane of the norm of two heads: the lane times its own head's factor times its gain. -/
theorem headNorm_at (a : FVec Ideal S256x128 .f32) (g : FVec Ideal S1x128 .f32) (r : Fin 256) (l : Fin 128) :
    headNorm a g (ix2 r l) = a (ix2 r l) * Ideal.rsqrt (Ideal.div
      (∑ d : Fin 64, a (ix2 r ⟨l.val / 64 * 64 + d.val, by omega⟩) * a (ix2 r ⟨l.val / 64 * 64 + d.val, by omega⟩))
        (Ideal.ofBits .f32 1115684864#32) + Ideal.ofBits .f32 897988541#32) * g (ix2 0 l) := by
  pointwise [headNorm, spread, factor, firstHeads, firstHead]
  simp only [select_lane]
  rw [sum_first (fun x => a (ix2 r x) * a (ix2 r x)), sum_second (fun x => a (ix2 r x) * a (ix2 r x))]
  have hl := l.isLt
  split
  · have e : l.val / 64 * 64 = 0 := by omega
    simp only [e, Nat.zero_add]
  · have e : l.val / 64 * 64 = 64 := by omega
    simp only [e]

/-- The queries' eight blocks. -/
theorem q_heads (v : FVec F S256x1024 .f32) (g : FVec F S1x128 .f32) (I : IVec S1x128 32) (hI : I = iota .tc S1x128 32 [1] iota_S1x128_d1_w32) :
    k0_pay37 g (k0_pay10 I 64#32) (k0_pay11 v g I 64#32)
      (k0_pay16 g (k0_pay10 I 64#32) (k0_pay12 v) (k0_pay14 v I 64#32) (k0_pay15 v I 64#32))
      (k0_pay22 g (k0_pay17 v) (k0_pay19 v (k0_pay10 I 64#32)) (k0_pay20 v (k0_pay10 I 64#32)) (k0_pay21 (k0_pay10 I 64#32)))
      (k0_pay23 v g (k0_pay10 I 64#32))
      (k0_pay27 g (k0_pay10 I 64#32) (k0_pay24 v) (k0_pay25 v) (k0_pay26 v (k0_pay10 I 64#32)))
      (k0_pay32 g (k0_pay10 I 64#32) (k0_pay28 v) (k0_pay30 v (k0_pay10 I 64#32)) (k0_pay31 v (k0_pay10 I 64#32)))
      (k0_pay33 v g (k0_pay10 I 64#32)) (k0_pay34 v) (k0_pay35 v) (FloatOps.ofBits .f32 0#32) (k0_pay36 (k0_pay10 I 64#32))
    = concatenate S256x1024 1 [
        ⟨S256x128, headNorm (extractStridedSlice S256x128 ![0, 0] v slices_S256x1024_o0_0_S256x128) g⟩,
        ⟨S256x128, headNorm (extractStridedSlice S256x128 ![0, 128] v slices_S256x1024_o0_128_S256x128) g⟩,
        ⟨S256x128, headNorm (extractStridedSlice S256x128 ![0, 256] v slices_S256x1024_o0_256_S256x128) g⟩,
        ⟨S256x128, headNorm (extractStridedSlice S256x128 ![0, 384] v slices_S256x1024_o0_384_S256x128) g⟩,
        ⟨S256x128, headNorm (extractStridedSlice S256x128 ![0, 512] v slices_S256x1024_o0_512_S256x128) g⟩,
        ⟨S256x128, headNorm (extractStridedSlice S256x128 ![0, 640] v slices_S256x1024_o0_640_S256x128) g⟩,
        ⟨S256x128, headNorm (extractStridedSlice S256x128 ![0, 768] v slices_S256x1024_o0_768_S256x128) g⟩,
        ⟨S256x128, headNorm (extractStridedSlice S256x128 ![0, 896] v slices_S256x1024_o0_896_S256x128) g⟩]
        concatenates_S256x128_S256x128_S256x128_S256x128_S256x128_S256x128_S256x128_S256x128_S256x1024_d1 := by
  subst hI; rfl

/-- Eight blocks of two heads side by side, read at a lane. -/
theorem eight_at (v : FVec Ideal S256x1024 .f32) (g : FVec Ideal S1x128 .f32) (r : Fin 256) (j : Fin 1024) :
    concatenate S256x1024 1 [
        ⟨S256x128, headNorm (extractStridedSlice S256x128 ![0, 0] v slices_S256x1024_o0_0_S256x128) g⟩,
        ⟨S256x128, headNorm (extractStridedSlice S256x128 ![0, 128] v slices_S256x1024_o0_128_S256x128) g⟩,
        ⟨S256x128, headNorm (extractStridedSlice S256x128 ![0, 256] v slices_S256x1024_o0_256_S256x128) g⟩,
        ⟨S256x128, headNorm (extractStridedSlice S256x128 ![0, 384] v slices_S256x1024_o0_384_S256x128) g⟩,
        ⟨S256x128, headNorm (extractStridedSlice S256x128 ![0, 512] v slices_S256x1024_o0_512_S256x128) g⟩,
        ⟨S256x128, headNorm (extractStridedSlice S256x128 ![0, 640] v slices_S256x1024_o0_640_S256x128) g⟩,
        ⟨S256x128, headNorm (extractStridedSlice S256x128 ![0, 768] v slices_S256x1024_o0_768_S256x128) g⟩,
        ⟨S256x128, headNorm (extractStridedSlice S256x128 ![0, 896] v slices_S256x1024_o0_896_S256x128) g⟩]
        concatenates_S256x128_S256x128_S256x128_S256x128_S256x128_S256x128_S256x128_S256x128_S256x1024_d1 (ix2 r j)
    = v (ix2 r j) * Ideal.rsqrt (Ideal.div
      (∑ d : Fin 64, v (ix2 r ⟨j.val / 64 * 64 + d.val, by omega⟩) * v (ix2 r ⟨j.val / 64 * 64 + d.val, by omega⟩))
        (Ideal.ofBits .f32 1115684864#32) + Ideal.ofBits .f32 897988541#32) * g (ix2 0 ⟨j.val % 128, by omega⟩) := by
  pointwise [headNorm_at]
  blk_point []

/-- The two blocks of the selected keys. -/
theorem paged_heads (v : FVec F S256x256 .f32) (g : FVec F S1x128 .f32) (I : IVec S1x128 32) (hI : I = iota .tc S1x128 32 [1] iota_S1x128_d1_w32) :
    k0_pay48 g (k0_pay42 I) (k0_pay43 v g I) (k0_pay44 v) (k0_pay46 v I) (k0_pay47 v I)
    = concatenate S256x256 1 [
        ⟨S256x128, headNorm (extractStridedSlice S256x128 ![0, 0] v slices_S256x256_o0_0_S256x128) g⟩,
        ⟨S256x128, headNorm (extractStridedSlice S256x128 ![0, 128] v slices_S256x256_o0_128_S256x128) g⟩]
        concatenates_S256x128_S256x128_S256x256_d1 := by
  subst hI; rfl

/-- The two blocks of the window's keys. -/
theorem win_heads (v : FVec F S256x1536 .f32) (g : FVec F S1x128 .f32) :
    k0_pay1 g k0_pay52 (k0_pay58 g k0_pay52 (k0_pay53 v) (k0_pay54 v) (k0_pay55 v) k0_pay56 k0_pay57) (k0_pay59 (k0_pay50 v))
      (k0_pay61 (k0_pay50 v) k0_pay52) (k0_pay62 (k0_pay50 v) k0_pay52)
    = concatenate S256x256 1 [
        ⟨S256x128, headNorm (extractStridedSlice S256x128 ![0, 0] (k0_pay50 v) slices_S256x256_o0_0_S256x128) g⟩,
        ⟨S256x128, headNorm (extractStridedSlice S256x128 ![0, 128] (k0_pay50 v) slices_S256x256_o0_128_S256x128) g⟩]
        concatenates_S256x128_S256x128_S256x256_d1 := rfl

/-- Two blocks of two heads side by side, read at a lane. -/
theorem two_at (v : FVec Ideal S256x256 .f32) (g : FVec Ideal S1x128 .f32) (r : Fin 256) (j : Fin 256) :
    concatenate S256x256 1 [
        ⟨S256x128, headNorm (extractStridedSlice S256x128 ![0, 0] v slices_S256x256_o0_0_S256x128) g⟩,
        ⟨S256x128, headNorm (extractStridedSlice S256x128 ![0, 128] v slices_S256x256_o0_128_S256x128) g⟩]
        concatenates_S256x128_S256x128_S256x256_d1 (ix2 r j)
    = v (ix2 r j) * Ideal.rsqrt (Ideal.div
      (∑ d : Fin 64, v (ix2 r ⟨j.val / 64 * 64 + d.val, by omega⟩) * v (ix2 r ⟨j.val / 64 * 64 + d.val, by omega⟩))
        (Ideal.ofBits .f32 1115684864#32) + Ideal.ofBits .f32 897988541#32) * g (ix2 0 ⟨j.val % 128, by omega⟩) := by
  pointwise [headNorm_at]
  blk_point []

end Cert.InProjIdeal.Rows
end
-- ==== Proof.Value.InProj.Blocks.lean ====
/- What a grid point of the input projection's call holds: 256 token rows, the norm's gain, the whole of the packed weight
   matrix and the heads' gains twice side by side. Each staged array is read at an index in terms of the arguments, then
   each block; the packed matrix section by section. -/
module

public import proofs.«01_k».proof.Proof.Gen.InProjIdeal.Value
public import proofs.«01_k».proof.Proof.Gen.InProjRefIdeal.Read
public import Idealize.ShloMosaic.Lib.Pipeline.ValueKit

@[expose] public section

set_option maxRecDepth 16384

noncomputable section

namespace Cert.InProjIdeal.Rows

open Idealize.ShloMosaic Idealize.ShloMosaic.TcCoe Idealize.SL.Sem
open Idealize.ShloMosaic.Pipeline (Dat)
open Cert.InProjIdeal Cert.InProjIdeal.Gen
open Cert.InProjRefIdeal.Read

variable (m : (ℓ : Loc nD τ sig) → Buf (Elt Ideal) ℓ)

/-- The block each window holds at point `t`: the rows and the results advance, the weights and gains stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- Row `r` of the stream is token `r % 2048` of batch element `r / 2048`. -/
theorem entry_x (c : Dev nD) (r : Fin 32768) (k : Fin 1024) : V m c main_v0 (ix2 r k)
    = m ((c : Thread nD τ).loc main_arg0) (ix3 ⟨r.val / 2048, by omega⟩ ⟨r.val % 2048, by omega⟩ k) := by
  entry_read
  pointwise

/-- The norm's gain as a row. -/
theorem entry_g (c : Dev nD) (k : Fin 1024) : V m c main_v12 (ix2 0 k) = m ((c : Thread nD τ).loc main_arg1) (ix1 k) := by
  entry_read
  pointwise

/-- The heads' gains, twice side by side. -/
theorem entry_qk (c : Dev nD) (h : Fin 4) (l : Fin 128) : V m c main_v11 (ix2 h l)
    = m ((c : Thread nD τ).loc main_arg3) (ix2 h ⟨l.val % 64, by omega⟩) := by
  entry_read
  pointwise
  blk_point []

end Cert.InProjIdeal.Rows

end
-- ==== Proof.Value.InProj.Packed.lean ====
/- The packed weight matrix of the input projection's call at a row and column: the host line cuts the matrix as given into
   seven sections, puts them side by side in another order and fills up with zeros. -/
module

public import proofs.«01_k».proof.Proof.Gen.InProjIdeal.Value
public import proofs.«01_k».proof.Proof.Gen.InProjRefIdeal.Read
public import Idealize.ShloMosaic.Lib.Pipeline.ValueKit

@[expose] public section

set_option maxRecDepth 65536

noncomputable section

namespace Cert.InProjIdeal.Rows

open Idealize.ShloMosaic Idealize.ShloMosaic.TcCoe Idealize.SL.Sem
open Idealize.ShloMosaic.Pipeline (Dat)
open Cert.InProjIdeal Cert.InProjIdeal.Gen
open Cert.InProjRefIdeal.Read

variable (m : (ℓ : Loc nD τ sig) → Buf (Elt Ideal) ℓ)

/-- The packed matrix's element at a row and column, from the matrix as given: the sections `z`, `xbc`, queries, keys and
    values, merge gates, `dt`, head gates and 48 columns of zeros. -/
def packed (w : (⟨S1024x9808, .f32⟩ : BufTy).Contents (Elt Ideal)) (k : Fin 1024) (j : Fin 9856) : EReal :=
  if h : j.val < 5120 then w (ix2 k ⟨j.val, by omega⟩)
  else if h : j.val < 7680 then w (ix2 k ⟨j.val + 32, by omega⟩)
  else if h : j.val < 9728 then w (ix2 k ⟨j.val + 80, by omega⟩)
  else if h : j.val < 9760 then w (ix2 k ⟨j.val - 4608, by omega⟩)
  else if h : j.val < 9808 then w (ix2 k ⟨j.val - 2048, by omega⟩)
  else 0

set_option maxHeartbeats 2000000 in
/-- The packed matrix as the host line makes it. -/
theorem staged_w (c : Dev nD) : V m c main_v10
    = (truncf .bf16 ((concatenate S1024x9856 1 [
       ⟨S1024x2048, extractStridedSlice S1024x2048 ![0, 0] (m ((c : Thread nD τ).loc main_arg2)) slices_S1024x9808_S1024x2048_0_0⟩,
       ⟨S1024x3072, extractStridedSlice S1024x3072 ![0, 2048] (m ((c : Thread nD τ).loc main_arg2)) slices_S1024x9808_S1024x3072_0_2048⟩,
       ⟨S1024x1024, extractStridedSlice S1024x1024 ![0, 5152] (m ((c : Thread nD τ).loc main_arg2)) slices_S1024x9808_S1024x1024_0_5152⟩,
       ⟨S1024x1536, extractStridedSlice S1024x1536 ![0, 6176] (m ((c : Thread nD τ).loc main_arg2)) slices_S1024x9808_S1024x1536_0_6176⟩,
       ⟨S1024x2048, extractStridedSlice S1024x2048 ![0, 7760] (m ((c : Thread nD τ).loc main_arg2)) slices_S1024x9808_S1024x2048_0_7760⟩,
       ⟨S1024x32, extractStridedSlice S1024x32 ![0, 5120] (m ((c : Thread nD τ).loc main_arg2)) slices_S1024x9808_S1024x32_0_5120⟩,
       ⟨S1024x48, extractStridedSlice S1024x48 ![0, 7712] (m ((c : Thread nD τ).loc main_arg2)) slices_S1024x9808_S1024x48_0_7712⟩,
       ⟨S1024x48, broadcastInDim S1024x48 ![] bcast_S_S1024x48 (constant (F := Ideal) S_ .f32 0x00000000#32)⟩] concatenates_S1024x2048_S1024x3072_S1024x1024_S1024x1536_S1024x2048_S1024x32_S1024x48_S1024x48_S1024x9856_d1 : FVec Ideal S1024x9856 .f32)) bitsLt_bf16_f32 : FVec Ideal S1024x9856 .bf16) := by
  rfl

set_option maxHeartbeats 1000000 in
/-- The packed matrix is staged so. -/
theorem entry_w (c : Dev nD) (k : Fin 1024) (j : Fin 9856) : V m c main_v10 (ix2 k j)
    = packed (m ((c : Thread nD τ).loc main_arg2)) k j := by
  refine (congrFun (staged_w m c) (ix2 k j)).trans ?_
  pointwise
  unfold packed
  blk_point []
  all_goals (exfalso; omega)

end Cert.InProjIdeal.Rows

end
-- ==== Proof.Value.InProj.Products.lean ====
/- The products a grid point of the input projection's call computes: a row of the stream, normed, against each section of
   the packed weights, is the reference's row of the one product with the whole matrix, at that section's columns. -/
module

public import proofs.«01_k».proof.Proof.Gen.InProjIdeal.Value
public import proofs.«01_k».proof.Proof.Gen.InProjRefIdeal.Read
public import proofs.«01_k».proof.Proof.Value.InProj.Blocks
public import proofs.«01_k».proof.Proof.Value.InProj.Packed
public import Idealize.ShloMosaic.Lib.Pipeline.ValueKit

@[expose] public section

set_option maxRecDepth 16384

noncomputable section

namespace Cert.InProjIdeal.Rows

open Idealize.ShloMosaic Idealize.ShloMosaic.TcCoe Idealize.SL.Sem
open Idealize.ShloMosaic.Pipeline (Dat)
open Cert.InProjIdeal Cert.InProjIdeal.Gen
open Cert.InProjRefIdeal.Read

variable (m : (ℓ : Loc nD τ sig) → Buf (Elt Ideal) ℓ)

/-- Row `r` of point `t`'s block of the stream. -/
theorem blk_x (c : Dev nD) (t : Fin cfg0.N) (r : Fin 256) (k : Fin 1024) : iblk m c 0 t (ix2 r k)
    = m ((c : Thread nD τ).loc main_arg0) (ix3 ⟨(t.val * 256 + r.val) / 2048, by have : t.val < 128 := t.isLt; omega⟩
        ⟨(t.val * 256 + r.val) % 2048, by omega⟩ k) := by
  have ht : t.val < 128 := t.isLt
  blk_simp [iblk]
  exact (congrArg (V m c main_v0) (by blk_ext [idx t])).trans (entry_x m c ⟨t.val * 256 + r.val, by omega⟩ k)

/-- Every point holds the norm's gain. -/
theorem blk_g (c : Dev nD) (t : Fin cfg0.N) (k : Fin 1024) : iblk m c 1 t (ix2 0 k)
    = m ((c : Thread nD τ).loc main_arg1) (ix1 k) := by
  blk_simp [iblk]
  exact (congrArg (V m c main_v12) (by blk_ext [idx t])).trans (entry_g m c k)

/-- Every point holds the whole packed matrix. -/
theorem blk_w (c : Dev nD) (t : Fin cfg0.N) (k : Fin 1024) (j : Fin 9856) : iblk m c 2 t (ix2 k j)
    = packed (m ((c : Thread nD τ).loc main_arg2)) k j := by
  blk_simp [iblk]
  exact (congrArg (V m c main_v10) (by blk_ext [idx t])).trans (entry_w m c k j)

/-- Every point holds the heads' gains. -/
theorem blk_qk (c : Dev nD) (t : Fin cfg0.N) (h : Fin 4) (l : Fin 128) : iblk m c 3 t (ix2 h l)
    = m ((c : Thread nD τ).loc main_arg3) (ix2 h ⟨l.val % 64, by omega⟩) := by
  blk_simp [iblk]
  exact (congrArg (V m c main_v11) (by blk_ext [idx t])).trans (entry_qk m c h l)

/-- Row `r` of point `t`, normed, is the reference's normed row. -/
theorem row (c : Dev nD) (t : Fin cfg0.N) (r : Fin 256) (k : Fin 1024) :
    k0_pay5 (iblk m c 0 t) (iblk m c 1 t) (ix2 r k) = val_main_v13 (F := Ideal) (m ((c : Thread nD τ).loc main_arg0)) (m ((c : Thread nD τ).loc main_arg1))
      (ix2 ⟨t.val * 256 + r.val, by have : t.val < 128 := t.isLt; omega⟩ k) := by
  have ht : t.val < 128 := t.isLt
  pointwise [k0_pay5, val_main_v0,val_main_v1,val_main_cst,val_main_v2,val_main_v3,val_main_cst_0,val_main_v4,val_main_v5,val_main_cst_1,val_main_v6,val_main_v7,val_main_v8,val_main_v9,val_main_v10,val_main_v11,val_main_v12,val_main_v13]
  reads_congr
  · exact blk_x m c t _ _
  · exact blk_x m c t _ _
  · exact blk_g m c t _

/-- The part z. -/
theorem prod_z (c : Dev nD) (t : Fin cfg0.N) (r : Fin 256) (j : Fin 2048) :
    k0_pay6 (iblk m c 0 t) (iblk m c 1 t) (View.ld (iblk m c 2 t) (Rect.unit ![0, 0] ![1024, 2048] inb_S1024x9856_S1024x2048_0_0)) (ix2 r j)
      = val_main_v14 (F := Ideal) (m ((c : Thread nD τ).loc main_arg0)) (m ((c : Thread nD τ).loc main_arg1)) (m ((c : Thread nD τ).loc main_arg2))
          (ix2 ⟨t.val * 256 + r.val, by have : t.val < 128 := t.isLt; omega⟩ ⟨0 + j.val, by omega⟩) := by
  pointwise [k0_pay6, val_main_v14]
  reads_congr
  · exact row m c t _ _
  · refine (blk_w m c t _ _).trans ?_
    unfold packed
    blk_point []
    all_goals first | omega | (exfalso; omega) | (dsimp only at *; exfalso; omega)

/-- The part that the convolution takes. -/
theorem prod_xbc (c : Dev nD) (t : Fin cfg0.N) (r : Fin 256) (j : Fin 3072) :
    k0_pay7 (iblk m c 0 t) (iblk m c 1 t) (View.ld (iblk m c 2 t) (Rect.unit ![0, 2048] ![1024, 3072] inb_S1024x9856_S1024x3072_0_2048)) (ix2 r j)
      = val_main_v14 (F := Ideal) (m ((c : Thread nD τ).loc main_arg0)) (m ((c : Thread nD τ).loc main_arg1)) (m ((c : Thread nD τ).loc main_arg2))
          (ix2 ⟨t.val * 256 + r.val, by have : t.val < 128 := t.isLt; omega⟩ ⟨2048 + j.val, by omega⟩) := by
  pointwise [k0_pay7, val_main_v14]
  reads_congr
  · exact row m c t _ _
  · refine (blk_w m c t _ _).trans ?_
    unfold packed
    blk_point []
    all_goals first | omega | (exfalso; omega) | (dsimp only at *; exfalso; omega)

/-- The queries before their norm. -/
theorem prod_q (c : Dev nD) (t : Fin cfg0.N) (r : Fin 256) (j : Fin 1024) :
    k0_pay8 (iblk m c 0 t) (iblk m c 1 t) (View.ld (iblk m c 2 t) (Rect.unit ![0, 5120] ![1024, 1024] inb_S1024x9856_S1024x1024_0_5120)) (ix2 r j)
      = val_main_v14 (F := Ideal) (m ((c : Thread nD τ).loc main_arg0)) (m ((c : Thread nD τ).loc main_arg1)) (m ((c : Thread nD τ).loc main_arg2))
          (ix2 ⟨t.val * 256 + r.val, by have : t.val < 128 := t.isLt; omega⟩ ⟨5152 + j.val, by omega⟩) := by
  pointwise [k0_pay8, val_main_v14]
  reads_congr
  · exact row m c t _ _
  · refine (blk_w m c t _ _).trans ?_
    unfold packed
    blk_point []
    all_goals first | omega | (exfalso; omega) | (dsimp only at *; exfalso; omega)

/-- The keys and values. -/
theorem prod_kv (c : Dev nD) (t : Fin cfg0.N) (r : Fin 256) (j : Fin 1536) :
    k0_pay38 (k0_pay5 (iblk m c 0 t) (iblk m c 1 t)) (View.ld (iblk m c 2 t) (Rect.unit ![0, 6144] ![1024, 1536] inb_S1024x9856_S1024x1536_0_6144)) (ix2 r j)
      = val_main_v14 (F := Ideal) (m ((c : Thread nD τ).loc main_arg0)) (m ((c : Thread nD τ).loc main_arg1)) (m ((c : Thread nD τ).loc main_arg2))
          (ix2 ⟨t.val * 256 + r.val, by have : t.val < 128 := t.isLt; omega⟩ ⟨6176 + j.val, by omega⟩) := by
  pointwise [k0_pay38, val_main_v14]
  reads_congr
  · exact row m c t _ _
  · refine (blk_w m c t _ _).trans ?_
    unfold packed
    blk_point []
    all_goals first | omega | (exfalso; omega) | (dsimp only at *; exfalso; omega)

/-- The merge gates. -/
theorem prod_mg (c : Dev nD) (t : Fin cfg0.N) (r : Fin 256) (j : Fin 2048) :
    k0_pay3 (k0_pay5 (iblk m c 0 t) (iblk m c 1 t)) (View.ld (iblk m c 2 t) (Rect.unit ![0, 7680] ![1024, 2048] inb_S1024x9856_S1024x2048_0_7680)) (ix2 r j)
      = val_main_v14 (F := Ideal) (m ((c : Thread nD τ).loc main_arg0)) (m ((c : Thread nD τ).loc main_arg1)) (m ((c : Thread nD τ).loc main_arg2))
          (ix2 ⟨t.val * 256 + r.val, by have : t.val < 128 := t.isLt; omega⟩ ⟨7760 + j.val, by omega⟩) := by
  pointwise [k0_pay3, val_main_v14]
  reads_congr
  · exact row m c t _ _
  · refine (blk_w m c t _ _).trans ?_
    unfold packed
    blk_point []
    all_goals first | omega | (exfalso; omega) | (dsimp only at *; exfalso; omega)

/-- The part of the small columns: `dt`, the head gates and zeros. -/
theorem prod_small (c : Dev nD) (t : Fin cfg0.N) (r : Fin 256) (j : Fin 128) :
    k0_pay4 (k0_pay5 (iblk m c 0 t) (iblk m c 1 t)) (View.ld (iblk m c 2 t) (Rect.unit ![0, 9728] ![1024, 128] inb_S1024x9856_S1024x128_0_9728)) (ix2 r j)
      = ∑ k : Fin 1024, val_main_v13 (F := Ideal) (m ((c : Thread nD τ).loc main_arg0)) (m ((c : Thread nD τ).loc main_arg1))
          (ix2 ⟨t.val * 256 + r.val, by have : t.val < 128 := t.isLt; omega⟩ k) * packed (m ((c : Thread nD τ).loc main_arg2)) k ⟨9728 + j.val, by omega⟩ := by
  pointwise [k0_pay4]
  reads_congr
  · exact row m c t _ _
  · exact congrArg (_ * ·) (blk_w m c t _ _)

end Cert.InProjIdeal.Rows

end
-- ==== Proof.Value.InProj.Plain.lean ====
/- The results that are a section of the product as it is, z, the convolution's part and the merge gates, and the small
   columns, which are padded with zeros. -/
module

public import proofs.«01_k».proof.Proof.Gen.InProjIdeal.Value
public import proofs.«01_k».proof.Proof.Gen.InProjRefIdeal.Read
public import proofs.«01_k».proof.Proof.Value.InProj.Head
public import proofs.«01_k».proof.Proof.Value.InProj.Products
public import Idealize.ShloMosaic.Lib.Pipeline.ValueKit

@[expose] public section

set_option maxRecDepth 16384

noncomputable section

namespace Cert.InProjIdeal.Rows

open Idealize.ShloMosaic Idealize.ShloMosaic.TcCoe Idealize.SL.Sem
open Idealize.ShloMosaic.Pipeline (Dat)
open Cert.InProjIdeal Cert.InProjIdeal.Gen
open Cert.InProjRefIdeal.Read

variable (m : (ℓ : Loc nD τ sig) → Buf (Elt Ideal) ℓ)

/-- Result 0: the 128 blocks cover it. -/
theorem final_z (c : Dev nD) : (dats m 0 c).arrAt 4 cfg0.N = val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, outsAt0]; frame_out
  idx_vars y
  have ht : t.val < 128 := t.isLt
  have e : ((cfg0.win 4).blk t).view.emb (ix2 y0 y1) = ix2 ⟨t.val * 256 + y0.val, by omega⟩ y1 := by blk_ext [idx t]
  refine Eq.trans ?_ (congrArg (val_main_v15 (F := Ideal) _ _ _) e.symm)
  refine (prod_z m c t y0 y1).trans ?_
  pointwise [val_main_v15]
  blk_ext

/-- Result 1: the 128 blocks cover it. -/
theorem final_xbc (c : Dev nD) : (dats m 0 c).arrAt 5 cfg0.N = val_main_v16 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, outsAt0]; frame_out
  idx_vars y
  have ht : t.val < 128 := t.isLt
  have e : ((cfg0.win 5).blk t).view.emb (ix2 y0 y1) = ix2 ⟨t.val * 256 + y0.val, by omega⟩ y1 := by blk_ext [idx t]
  refine Eq.trans ?_ (congrArg (val_main_v16 (F := Ideal) _ _ _) e.symm)
  refine (prod_xbc m c t y0 y1).trans ?_
  pointwise [val_main_v16]
  blk_ext

/-- Result 5: the 128 blocks cover it. -/
theorem final_mg (c : Dev nD) : (dats m 0 c).arrAt 9 cfg0.N = val_main_v21 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9, outsAt0]; frame_out
  idx_vars y
  have ht : t.val < 128 := t.isLt
  have e : ((cfg0.win 9).blk t).view.emb (ix2 y0 y1) = ix2 ⟨t.val * 256 + y0.val, by omega⟩ y1 := by blk_ext [idx t]
  refine Eq.trans ?_ (congrArg (val_main_v21 (F := Ideal) _ _ _) e.symm)
  refine (prod_mg m c t y0 y1).trans ?_
  pointwise [val_main_v21]
  blk_ext

/-- The packed matrix's padding columns hold zeros. -/
theorem packed_pad (w : FVec Ideal S1024x9808 .f32) (k : Fin 1024) (j : Fin 9856) (hj : 9808 ≤ j.val) :
    packed w k j = (0 : EReal) := by
  unfold packed
  split_ifs <;> first | rfl | omega

/-- Past the head gates the packed matrix holds zeros, and so does the product. -/
theorem pad_zero (h : Fin 1024 → EReal) (w : FVec Ideal S1024x9808 .f32) (j : Fin 128) (hj : 80 ≤ j.val) :
    ∑ k : Fin 1024, h k * packed w k ⟨9728 + j.val, by omega⟩ = 0 := by
  refine Finset.sum_eq_zero fun k _ => ?_
  rw [packed_pad w k _ (by show 9808 ≤ 9728 + j.val; omega), mul_zero]

/-- Result 6: the small columns. -/
theorem final_small (c : Dev nD) : (dats m 0 c).arrAt 10 cfg0.N = val_main_v92 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10, outsAt0]; frame_out
  idx_vars y
  have ht : t.val < 128 := t.isLt
  have e : ((cfg0.win 10).blk t).view.emb (ix2 y0 y1) = ix2 ⟨t.val * 256 + y0.val, by omega⟩ y1 := by blk_ext [idx t]
  refine Eq.trans ?_ (congrArg (val_main_v92 (F := Ideal) _ _ _) e.symm)
  refine (prod_small m c t y0 y1).trans ?_
  pointwise [val_main_v91, val_main_v92, val_main_v17, val_main_v20, val_main_v14, val_main_cst_12]
  rcases Nat.lt_or_ge y1.val 32 with h1 | h1
  · rw [dif_pos h1]
    refine Fin.sum_fin_congr fun x => congrArg (val_main_v13 (F := Ideal) _ _ _ * ·) ?_
    unfold packed
    blk_point []
    all_goals first | omega | (exfalso; omega) | (dsimp only at *; exfalso; omega)
  rw [dif_neg (by omega)]
  rcases Nat.lt_or_ge y1.val 80 with h2 | h2
  · rw [dif_pos (by omega)]
    refine Fin.sum_fin_congr fun x => congrArg (val_main_v13 (F := Ideal) _ _ _ * ·) ?_
    unfold packed
    blk_point []
    all_goals first | omega | (exfalso; omega) | (dsimp only at *; exfalso; omega)
  rw [dif_neg (by omega)]
  exact pad_zero _ _ y1 h2

end Cert.InProjIdeal.Rows

end
-- ==== Proof.Value.InProj.Queries.lean ====
/- The queries: each head normed, times its gain and an eighth. -/
module

public import proofs.«01_k».proof.Proof.Gen.InProjIdeal.Value
public import proofs.«01_k».proof.Proof.Gen.InProjRefIdeal.Read
public import proofs.«01_k».proof.Proof.Value.InProj.Head
public import proofs.«01_k».proof.Proof.Value.InProj.Products
public import Idealize.ShloMosaic.Lib.Pipeline.ValueKit

@[expose] public section

set_option maxRecDepth 16384

noncomputable section

namespace Cert.InProjIdeal.Rows

open Idealize.ShloMosaic Idealize.ShloMosaic.TcCoe Idealize.SL.Sem
open Idealize.ShloMosaic.Pipeline (Dat)
open Cert.InProjIdeal Cert.InProjIdeal.Gen
open Cert.InProjRefIdeal.Read

variable (m : (ℓ : Loc nD τ sig) → Buf (Elt Ideal) ℓ)

/-- The queries' gain is the reference's, times an eighth. -/
theorem gain_q (c : Dev nD) (t : Fin cfg0.N) (l : Fin 128)
    (x3 : FVec Ideal S4x64 .f32) (h : m ((c : Thread nD τ).loc main_arg3) = x3) :
    k0_pay9 (View.ld (iblk m c 3 t) (Rect.unit ![0, 0] ![1, 128] inb_S4x128_S1x128_0_0)) (ix2 0 l)
      = x3 (ix2 0 ⟨l.val % 64, by omega⟩) * Ideal.ofBits .f32 1040187392#32 := by
  pointwise [k0_pay9]
  reads_congr
  exact (blk_qk m c t _ _).trans (congrFun h _)

/-- A normed query from the product's columns is the reference's. -/
theorem query_at (c : Dev nD) (t : Fin cfg0.N) (r : Fin 256)
    (x3 : FVec Ideal S4x64 .f32) (v : FVec Ideal S256x1024 .f32) (g : FVec Ideal S1x128 .f32)
    (hv : ∀ j : Fin 1024, v (ix2 r j) = val_main_v14 (F := Ideal) (m ((c : Thread nD τ).loc main_arg0)) (m ((c : Thread nD τ).loc main_arg1)) (m ((c : Thread nD τ).loc main_arg2)) (ix2 ⟨t.val * 256 + r.val, by have : t.val < 128 := t.isLt; omega⟩ ⟨5152 + j.val, by omega⟩))
    (hg : ∀ l : Fin 128, g (ix2 0 l) = x3 (ix2 0 ⟨l.val % 64, by omega⟩) * Ideal.ofBits .f32 1040187392#32) (j : Fin 1024) :
    v (ix2 r j) * Ideal.rsqrt (Ideal.div
      (∑ d : Fin 64, v (ix2 r ⟨j.val / 64 * 64 + d.val, by omega⟩) * v (ix2 r ⟨j.val / 64 * 64 + d.val, by omega⟩))
        (Ideal.ofBits .f32 1115684864#32) + Ideal.ofBits .f32 897988541#32) * g (ix2 0 ⟨j.val % 128, by omega⟩)
      = val_main_v93 (F := Ideal) (m ((c : Thread nD τ).loc main_arg0)) (m ((c : Thread nD τ).loc main_arg1)) (m ((c : Thread nD τ).loc main_arg2)) x3 (ix2 ⟨t.val * 256 + r.val, by have : t.val < 128 := t.isLt; omega⟩ j) := by
  have ht : t.val < 128 := t.isLt
  simp only [hv, hg]
  rw [← mul_assoc]
  pointwise [val_main_v18, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v93, val_main_cst_2, val_main_cst_3, val_main_cst_4, val_main_cst_5]
  reads_congr
  all_goals blk_ext

/-- Result 2: the queries. -/
theorem final_q (c : Dev nD) : (dats m 0 c).arrAt 6 cfg0.N = val_main_v93 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6, outsAt0]; frame_out
  idx_vars y
  have ht : t.val < 128 := t.isLt
  have e : ((cfg0.win 6).blk t).view.emb (ix2 y0 y1) = ix2 ⟨t.val * 256 + y0.val, by omega⟩ y1 := by blk_ext [idx t]
  refine Eq.trans ?_ (congrArg (val_main_v93 (F := Ideal) _ _ _ _) e.symm)
  rw [q_heads _ _ _ rfl]
  exact (eight_at _ _ y0 y1).trans (query_at m c t y0 _ _ _ (prod_q m c t y0) (fun l => gain_q m c t l _ rfl) y1)

end Cert.InProjIdeal.Rows

end
-- ==== Proof.Value.InProj.Keys.lean ====
/- The keys and values: the columns the pages take as they are, and the selected and windowed keys, normed. -/
module

public import proofs.«01_k».proof.Proof.Gen.InProjIdeal.Value
public import proofs.«01_k».proof.Proof.Gen.InProjRefIdeal.Read
public import proofs.«01_k».proof.Proof.Value.InProj.Head
public import proofs.«01_k».proof.Proof.Value.InProj.Products
public import Idealize.ShloMosaic.Lib.Pipeline.ValueKit

@[expose] public section

set_option maxRecDepth 16384

noncomputable section

namespace Cert.InProjIdeal.Rows

open Idealize.ShloMosaic Idealize.ShloMosaic.TcCoe Idealize.SL.Sem
open Idealize.ShloMosaic.Pipeline (Dat)
open Cert.InProjIdeal Cert.InProjIdeal.Gen
open Cert.InProjRefIdeal.Read

variable (m : (ℓ : Loc nD τ sig) → Buf (Elt Ideal) ℓ)

/-- Columns 0 to 511 of the keys and values. -/
theorem cols_0 (c : Dev nD) (t : Fin cfg0.N) (r : Fin 256) (j : Fin 512) :
    k0_pay39 (k0_pay5 (iblk m c 0 t) (iblk m c 1 t)) (View.ld (iblk m c 2 t) (Rect.unit ![0, 6144] ![1024, 1536] inb_S1024x9856_S1024x1536_0_6144)) (ix2 r j)
      = val_main_v14 (F := Ideal) (m ((c : Thread nD τ).loc main_arg0)) (m ((c : Thread nD τ).loc main_arg1)) (m ((c : Thread nD τ).loc main_arg2)) (ix2 ⟨t.val * 256 + r.val, by have : t.val < 128 := t.isLt; omega⟩ ⟨6176 + j.val, by omega⟩) := by
  pointwise [k0_pay39]
  refine (prod_kv m c t _ _).trans ?_
  blk_ext

/-- Columns 512 to 767 of the keys and values. -/
theorem cols_512 (c : Dev nD) (t : Fin cfg0.N) (r : Fin 256) (j : Fin 256) :
    k0_pay40 (k0_pay5 (iblk m c 0 t) (iblk m c 1 t)) (View.ld (iblk m c 2 t) (Rect.unit ![0, 6144] ![1024, 1536] inb_S1024x9856_S1024x1536_0_6144)) (ix2 r j)
      = val_main_v14 (F := Ideal) (m ((c : Thread nD τ).loc main_arg0)) (m ((c : Thread nD τ).loc main_arg1)) (m ((c : Thread nD τ).loc main_arg2)) (ix2 ⟨t.val * 256 + r.val, by have : t.val < 128 := t.isLt; omega⟩ ⟨6688 + j.val, by omega⟩) := by
  pointwise [k0_pay40]
  refine (prod_kv m c t _ _).trans ?_
  blk_ext

/-- Columns 768 to 1023 of the keys and values. -/
theorem cols_768 (c : Dev nD) (t : Fin cfg0.N) (r : Fin 256) (j : Fin 256) :
    k0_pay49 (k0_pay38 (k0_pay5 (iblk m c 0 t) (iblk m c 1 t)) (View.ld (iblk m c 2 t) (Rect.unit ![0, 6144] ![1024, 1536] inb_S1024x9856_S1024x1536_0_6144))) (ix2 r j)
      = val_main_v14 (F := Ideal) (m ((c : Thread nD τ).loc main_arg0)) (m ((c : Thread nD τ).loc main_arg1)) (m ((c : Thread nD τ).loc main_arg2)) (ix2 ⟨t.val * 256 + r.val, by have : t.val < 128 := t.isLt; omega⟩ ⟨6944 + j.val, by omega⟩) := by
  pointwise [k0_pay49]
  refine (prod_kv m c t _ _).trans ?_
  blk_ext

/-- Columns 1024 to 1279 of the keys and values. -/
theorem cols_1024 (c : Dev nD) (t : Fin cfg0.N) (r : Fin 256) (j : Fin 256) :
    k0_pay50 (k0_pay38 (k0_pay5 (iblk m c 0 t) (iblk m c 1 t)) (View.ld (iblk m c 2 t) (Rect.unit ![0, 6144] ![1024, 1536] inb_S1024x9856_S1024x1536_0_6144))) (ix2 r j)
      = val_main_v14 (F := Ideal) (m ((c : Thread nD τ).loc main_arg0)) (m ((c : Thread nD τ).loc main_arg1)) (m ((c : Thread nD τ).loc main_arg2)) (ix2 ⟨t.val * 256 + r.val, by have : t.val < 128 := t.isLt; omega⟩ ⟨7200 + j.val, by omega⟩) := by
  pointwise [k0_pay50]
  refine (prod_kv m c t _ _).trans ?_
  blk_ext

/-- Columns 1280 to 1535 of the keys and values. -/
theorem cols_1280 (c : Dev nD) (t : Fin cfg0.N) (r : Fin 256) (j : Fin 256) :
    k0_pay2 (k0_pay38 (k0_pay5 (iblk m c 0 t) (iblk m c 1 t)) (View.ld (iblk m c 2 t) (Rect.unit ![0, 6144] ![1024, 1536] inb_S1024x9856_S1024x1536_0_6144))) (ix2 r j)
      = val_main_v14 (F := Ideal) (m ((c : Thread nD τ).loc main_arg0)) (m ((c : Thread nD τ).loc main_arg1)) (m ((c : Thread nD τ).loc main_arg2)) (ix2 ⟨t.val * 256 + r.val, by have : t.val < 128 := t.isLt; omega⟩ ⟨7456 + j.val, by omega⟩) := by
  pointwise [k0_pay2]
  refine (prod_kv m c t _ _).trans ?_
  blk_ext

/-- A gain's row, twice side by side. -/
theorem gain_sel (c : Dev nD) (t : Fin cfg0.N) (l : Fin 128) (x3 : FVec Ideal S4x64 .f32) (h : m ((c : Thread nD τ).loc main_arg3) = x3) :
    k0_pay41 (View.ld (iblk m c 3 t) (Rect.unit ![2, 0] ![1, 128] inb_S4x128_S1x128_2_0)) (ix2 0 l)
      = x3 (ix2 2 ⟨l.val % 64, by omega⟩) := by
  pointwise [k0_pay41]
  exact (blk_qk m c t _ _).trans (congrFun h _)

/-- A gain's row, twice side by side. -/
theorem gain_win (c : Dev nD) (t : Fin cfg0.N) (l : Fin 128) (x3 : FVec Ideal S4x64 .f32) (h : m ((c : Thread nD τ).loc main_arg3) = x3) :
    k0_pay51 (View.ld (iblk m c 3 t) (Rect.unit ![3, 0] ![1, 128] inb_S4x128_S1x128_3_0)) (ix2 0 l)
      = x3 (ix2 3 ⟨l.val % 64, by omega⟩) := by
  pointwise [k0_pay51]
  exact (blk_qk m c t _ _).trans (congrFun h _)

/-- A normed key from the product's columns is the reference's. -/
theorem key_sel (c : Dev nD) (t : Fin cfg0.N) (r : Fin 256)
    (x3 : FVec Ideal S4x64 .f32) (v : FVec Ideal S256x256 .f32) (g : FVec Ideal S1x128 .f32)
    (hv : ∀ j : Fin 256, v (ix2 r j) = val_main_v14 (F := Ideal) (m ((c : Thread nD τ).loc main_arg0)) (m ((c : Thread nD τ).loc main_arg1)) (m ((c : Thread nD τ).loc main_arg2)) (ix2 ⟨t.val * 256 + r.val, by have : t.val < 128 := t.isLt; omega⟩ ⟨6688 + j.val, by omega⟩))
    (hg : ∀ l : Fin 128, g (ix2 0 l) = x3 (ix2 2 ⟨l.val % 64, by omega⟩)) (j : Fin 256) :
    v (ix2 r j) * Ideal.rsqrt (Ideal.div
      (∑ d : Fin 64, v (ix2 r ⟨j.val / 64 * 64 + d.val, by omega⟩) * v (ix2 r ⟨j.val / 64 * 64 + d.val, by omega⟩))
        (Ideal.ofBits .f32 1115684864#32) + Ideal.ofBits .f32 897988541#32) * g (ix2 0 ⟨j.val % 128, by omega⟩)
      = val_main_v94 (F := Ideal) (m ((c : Thread nD τ).loc main_arg0)) (m ((c : Thread nD τ).loc main_arg1)) (m ((c : Thread nD τ).loc main_arg2)) x3 (ix2 ⟨t.val * 256 + r.val, by have : t.val < 128 := t.isLt; omega⟩ ⟨512 + j.val, by omega⟩) := by
  have ht : t.val < 128 := t.isLt
  simp only [hv, hg]
  pointwise [val_main_v19, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v94, val_main_cst_6, val_main_cst_7, val_main_cst_8]
  blk_point []
  all_goals (exfalso; omega)

/-- A normed key from the product's columns is the reference's. -/
theorem key_win (c : Dev nD) (t : Fin cfg0.N) (r : Fin 256)
    (x3 : FVec Ideal S4x64 .f32) (v : FVec Ideal S256x256 .f32) (g : FVec Ideal S1x128 .f32)
    (hv : ∀ j : Fin 256, v (ix2 r j) = val_main_v14 (F := Ideal) (m ((c : Thread nD τ).loc main_arg0)) (m ((c : Thread nD τ).loc main_arg1)) (m ((c : Thread nD τ).loc main_arg2)) (ix2 ⟨t.val * 256 + r.val, by have : t.val < 128 := t.isLt; omega⟩ ⟨7200 + j.val, by omega⟩))
    (hg : ∀ l : Fin 128, g (ix2 0 l) = x3 (ix2 3 ⟨l.val % 64, by omega⟩)) (j : Fin 256) :
    v (ix2 r j) * Ideal.rsqrt (Ideal.div
      (∑ d : Fin 64, v (ix2 r ⟨j.val / 64 * 64 + d.val, by omega⟩) * v (ix2 r ⟨j.val / 64 * 64 + d.val, by omega⟩))
        (Ideal.ofBits .f32 1115684864#32) + Ideal.ofBits .f32 897988541#32) * g (ix2 0 ⟨j.val % 128, by omega⟩)
      = val_main_v95 (F := Ideal) (m ((c : Thread nD τ).loc main_arg0)) (m ((c : Thread nD τ).loc main_arg1)) (m ((c : Thread nD τ).loc main_arg2)) x3 (ix2 ⟨t.val * 256 + r.val, by have : t.val < 128 := t.isLt; omega⟩ ⟨0 + j.val, by omega⟩) := by
  have ht : t.val < 128 := t.isLt
  simp only [hv, hg]
  pointwise [val_main_v19, val_main_v40, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v95, val_main_cst_9, val_main_cst_10, val_main_cst_11]
  blk_point []
  all_goals (exfalso; omega)

/-- Columns from 0 of the reference's row are the product's from 6176. -/
theorem pages_low (c : Dev nD) (x3 : FVec Ideal S4x64 .f32) (R : Fin 32768) (j : Fin 512) :
    val_main_v14 (F := Ideal) (m ((c : Thread nD τ).loc main_arg0)) (m ((c : Thread nD τ).loc main_arg1)) (m ((c : Thread nD τ).loc main_arg2)) (ix2 R ⟨6176 + j.val, by omega⟩)
      = val_main_v94 (F := Ideal) (m ((c : Thread nD τ).loc main_arg0)) (m ((c : Thread nD τ).loc main_arg1)) (m ((c : Thread nD τ).loc main_arg2)) x3 (ix2 R ⟨0 + j.val, by omega⟩) := by
  pointwise [val_main_v19, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v94, val_main_cst_6, val_main_cst_7, val_main_cst_8]
  blk_point []
  all_goals (exfalso; omega)

/-- Columns from 768 of the reference's row are the product's from 6944. -/
theorem pages_high (c : Dev nD) (x3 : FVec Ideal S4x64 .f32) (R : Fin 32768) (j : Fin 256) :
    val_main_v14 (F := Ideal) (m ((c : Thread nD τ).loc main_arg0)) (m ((c : Thread nD τ).loc main_arg1)) (m ((c : Thread nD τ).loc main_arg2)) (ix2 R ⟨6944 + j.val, by omega⟩)
      = val_main_v94 (F := Ideal) (m ((c : Thread nD τ).loc main_arg0)) (m ((c : Thread nD τ).loc main_arg1)) (m ((c : Thread nD τ).loc main_arg2)) x3 (ix2 R ⟨768 + j.val, by omega⟩) := by
  pointwise [val_main_v19, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v94, val_main_cst_6, val_main_cst_7, val_main_cst_8]
  blk_point []
  all_goals (exfalso; omega)

/-- Columns from 256 of the reference's row are the product's from 7456. -/
theorem window_high (c : Dev nD) (x3 : FVec Ideal S4x64 .f32) (R : Fin 32768) (j : Fin 256) :
    val_main_v14 (F := Ideal) (m ((c : Thread nD τ).loc main_arg0)) (m ((c : Thread nD τ).loc main_arg1)) (m ((c : Thread nD τ).loc main_arg2)) (ix2 R ⟨7456 + j.val, by omega⟩)
      = val_main_v95 (F := Ideal) (m ((c : Thread nD τ).loc main_arg0)) (m ((c : Thread nD τ).loc main_arg1)) (m ((c : Thread nD τ).loc main_arg2)) x3 (ix2 R ⟨256 + j.val, by omega⟩) := by
  pointwise [val_main_v19, val_main_v40, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v95, val_main_cst_9, val_main_cst_10, val_main_cst_11]
  blk_point []
  all_goals (exfalso; omega)

end Cert.InProjIdeal.Rows

end
-- ==== Proof.Value.InProj.Pages.lean ====
/- The results of several stores: the pages, in three stores, and the window, in two. -/
module

public import proofs.«01_k».proof.Proof.Gen.InProjIdeal.Value
public import proofs.«01_k».proof.Proof.Gen.InProjRefIdeal.Read
public import proofs.«01_k».proof.Proof.Value.InProj.Head
public import proofs.«01_k».proof.Proof.Value.InProj.Keys
public import Idealize.ShloMosaic.Lib.Pipeline.ValueKit

@[expose] public section

set_option maxRecDepth 16384

noncomputable section

namespace Cert.InProjIdeal.Rows

open Idealize.ShloMosaic Idealize.ShloMosaic.TcCoe Idealize.SL.Sem
open Idealize.ShloMosaic.Pipeline (Dat)
open Cert.InProjIdeal Cert.InProjIdeal.Gen
open Cert.InProjRefIdeal.Read

variable (m : (ℓ : Loc nD τ sig) → Buf (Elt Ideal) ℓ)

/-- Result 4: the columns the pages take. -/
theorem final_pages (c : Dev nD) : (dats m 0 c).arrAt 7 cfg0.N = val_main_v94 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, outsAt0]; frame_out
  have ht : t.val < 128 := t.isLt
  canon_tiles x h using (by refine View.cover_of_tiledBy (s := S256x1024) _ S256x256.size ?_ _; sl_kernel_rfl)
  · idx_vars x
    have e : ((View.whole main_v13_3).slice (win0_7.rect t)).emb y = ix2 ⟨t.val * 256 + x0.val, by omega⟩ ⟨768 + x1.val, by omega⟩ := by blk_ext [idx t]
    refine Eq.trans ?_ (congrArg (val_main_v94 (F := Ideal) _ _ _ _) e.symm)
    exact (cols_768 m c t x0 x1).trans (pages_high m c _ ⟨t.val * 256 + x0.val, by omega⟩ x1)
  · idx_vars x
    have e : ((View.whole main_v13_3).slice (win0_7.rect t)).emb y = ix2 ⟨t.val * 256 + x0.val, by omega⟩ ⟨512 + x1.val, by omega⟩ := by blk_ext [idx t]
    refine Eq.trans ?_ (congrArg (val_main_v94 (F := Ideal) _ _ _ _) e.symm)
    rw [paged_heads _ _ _ rfl]
    exact (two_at _ _ x0 x1).trans (key_sel m c t x0 _ _ _ (cols_512 m c t x0) (fun l => gain_sel m c t l _ rfl) x1)
  · idx_vars x
    have e : ((View.whole main_v13_3).slice (win0_7.rect t)).emb y = ix2 ⟨t.val * 256 + x0.val, by omega⟩ ⟨0 + x1.val, by omega⟩ := by blk_ext [idx t]
    refine Eq.trans ?_ (congrArg (val_main_v94 (F := Ideal) _ _ _ _) e.symm)
    exact (cols_0 m c t x0 x1).trans (pages_low m c _ ⟨t.val * 256 + x0.val, by omega⟩ x1)

/-- Result 5: the windowed keys and values. -/
theorem final_window (c : Dev nD) : (dats m 0 c).arrAt 8 cfg0.N = val_main_v95 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8, outsAt0]; frame_out
  have ht : t.val < 128 := t.isLt
  canon_tiles x h
  · idx_vars x
    have e : ((View.whole main_v13_4).slice (win0_8.rect t)).emb y = ix2 ⟨t.val * 256 + x0.val, by omega⟩ ⟨256 + x1.val, by omega⟩ := by blk_ext [idx t]
    refine Eq.trans ?_ (congrArg (val_main_v95 (F := Ideal) _ _ _ _) e.symm)
    exact (cols_1280 m c t x0 x1).trans (window_high m c _ ⟨t.val * 256 + x0.val, by omega⟩ x1)
  · idx_vars x
    have e : ((View.whole main_v13_4).slice (win0_8.rect t)).emb y = ix2 ⟨t.val * 256 + x0.val, by omega⟩ ⟨0 + x1.val, by omega⟩ := by blk_ext [idx t]
    refine Eq.trans ?_ (congrArg (val_main_v95 (F := Ideal) _ _ _ _) e.symm)
    rw [win_heads]
    exact (two_at _ _ x0 x1).trans (key_win m c t x0 _ _ _ (cols_1024 m c t x0) (fun l => gain_win m c t l _ rfl) x1)

end Cert.InProjIdeal.Rows

end
-- ==== Proof.Value.InProj.Claim.lean ====
/- The input projection's claims: the call ends with its arguments unchanged and every counter at zero, and over the
   extended reals its seven results are the ones its reference computes. -/
module

public import proofs.«01_k».proof.Defs
public import proofs.«01_k».proof.Proof.Value.InProj.Plain
public import proofs.«01_k».proof.Proof.Value.InProj.Queries
public import proofs.«01_k».proof.Proof.Value.InProj.Pages
public import proofs.«01_k».proof.Proof.Gen.InProj.Frame
public import proofs.«01_k».proof.Proof.Gen.InProjRefIdeal.Run
public import proofs.«01_k».proof.Proof.Gen.InProjRefIdeal.Read
public import Idealize.ShloMosaic.Lib.Quiescent

@[expose] public section

set_option maxRecDepth 16384

noncomputable section

namespace Cert.InProjIdeal.Rows

open Idealize.ShloMosaic Idealize.ShloMosaic.TcCoe Idealize.SL.Sem

/-- The input projection and its reference compute the same seven arrays over the extended reals. -/
theorem algebraic : Cert.algebraic_InProjIdeal_InProjRefIdeal (hInProjIdeal := Cert.InProjIdeal.Gen.facts) (hInProjRefIdeal := Cert.InProjRefIdeal.Gen.facts) := by
  pair_intro
  · run_from Cert.InProjIdeal.Value.run_blocks m g
  · run_from Cert.InProjRefIdeal.Value.run m' g'
    · exact (Cert.InProjRefIdeal.Read.val_main_v15_eq _ _ _).trans (final_z m c).symm
    · exact (Cert.InProjRefIdeal.Read.val_main_v16_eq _ _ _).trans (final_xbc m c).symm
    · obtain ⟨a0, a1, a2, a3⟩ := hagree c
      rw [Cert.InProjRefIdeal.Read.val_main_v93_eq m' c, a0, a1, a2, a3]
      exact (final_q m c).symm
    · obtain ⟨a0, a1, a2, a3⟩ := hagree c
      rw [Cert.InProjRefIdeal.Read.val_main_v94_eq m' c, a0, a1, a2, a3]
      exact (final_pages m c).symm
    · obtain ⟨a0, a1, a2, a3⟩ := hagree c
      rw [Cert.InProjRefIdeal.Read.val_main_v95_eq m' c, a0, a1, a2, a3]
      exact (final_window m c).symm
    · exact (Cert.InProjRefIdeal.Read.val_main_v21_eq _ _ _).trans (final_mg m c).symm
    · exact (Cert.InProjRefIdeal.Read.val_main_v92_eq _ _ _).trans (final_small m c).symm

/-- The reference is host operations only and declares no counter, so its run is its frame. -/
theorem frame_reference : Cert.quiescent_InProjRefIdeal (hInProjRefIdeal := Cert.InProjRefIdeal.Gen.facts) := fun m ρ _ =>
  (θ_run Cert.InProjRefIdeal.defs _ _).mono (fun r h => ⟨fun c => (h c).2.2.2.2.2.2.2, sem_eq_zero_of_no_sems (by decide) r.2⟩)
    (Cert.InProjRefIdeal.Value.run (F := Ideal) m ρ)

/-- The call as printed runs to its end, its arguments as they were and every counter at zero. -/
theorem frame_call : Cert.quiescent_InProj (hInProj := Cert.InProj.Gen.facts) := fun m ρ _ => Cert.InProj.Gen.frame m ρ

/-- So does the same call read over the extended reals. -/
theorem frame_call_ideal : Cert.quiescent_InProjIdeal (hInProjIdeal := Cert.InProjIdeal.Gen.facts) := fun m ρ _ => Cert.InProjIdeal.Gen.frame m ρ

end Cert.InProjIdeal.Rows
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Run.Launch
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Value.FfnClaim
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Value.MergeClaim
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Value.InProj.Claim
public import Idealize.ShloMosaic.Adequacy
public import Idealize.ShloMosaic.Init

@[expose] public section

noncomputable section

namespace Cert.Proof

open Idealize.ShloMosaic Idealize.SL.Sem Cert.Kernel

/-- The attention call runs to its end, leaving its arguments as they were and every counter at zero. -/
theorem frame_kernel : Cert.quiescent_Kernel (hKernel := Cert.Kernel.Gen.facts) := fun m ρ _ =>
  (θ_run Cert.Kernel.defs _ _).mono (fun _ h => ⟨Run.args_kept m h.1, h.2⟩) (Run.run_main (F := Bits) m ρ)

theorem claim : Cert.Claim :=
  ⟨Cert.Kernel.Gen.facts, Cert.Ffn.Gen.facts, Cert.FfnIdeal.Gen.facts, Cert.FfnRefIdeal.Gen.facts,
    Cert.Merge.Gen.facts, Cert.MergeIdeal.Gen.facts, Cert.MergeRefIdeal.Gen.facts,
    Cert.InProj.Gen.facts, Cert.InProjIdeal.Gen.facts, Cert.InProjRefIdeal.Gen.facts,
    frame_kernel, Cert.FfnIdeal.Rows.frame_call, Cert.FfnIdeal.Rows.frame_call_ideal, Cert.FfnIdeal.Rows.frame_reference,
    Cert.MergeIdeal.Rows.frame_call, Cert.MergeIdeal.Rows.frame_call_ideal, Cert.MergeIdeal.Rows.frame_reference,
    Cert.InProjIdeal.Rows.frame_call, Cert.InProjIdeal.Rows.frame_call_ideal, Cert.InProjIdeal.Rows.frame_reference,
    trivial, Cert.FfnIdeal.Rows.algebraic,
    trivial, Cert.MergeIdeal.Rows.algebraic,
    trivial, Cert.InProjIdeal.Rows.algebraic⟩

end Cert.Proof

end
